-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S45056x1024 : Shape := ⟨2, ![45056, 1024]⟩
abbrev S64x5632 : Shape := ⟨2, ![64, 5632]⟩
abbrev S64x45056 : Shape := ⟨2, ![64, 45056]⟩
abbrev S128x8192 : Shape := ⟨2, ![128, 8192]⟩
abbrev S128x45056 : Shape := ⟨2, ![128, 45056]⟩
abbrev S1024x1024 : Shape := ⟨2, ![1024, 1024]⟩
abbrev S64x128 : Shape := ⟨2, ![64, 128]⟩
abbrev S64x1024 : Shape := ⟨2, ![64, 1024]⟩
abbrev S128x1024 : Shape := ⟨2, ![128, 1024]⟩
abbrev S128x128 : Shape := ⟨2, ![128, 128]⟩
abbrev S128x128x1 : Shape := ⟨3, ![128, 128, 1]⟩
abbrev S64x128x1 : Shape := ⟨3, ![64, 128, 1]⟩
abbrev S128x256 : Shape := ⟨2, ![128, 256]⟩
abbrev S256x128 : Shape := ⟨2, ![256, 128]⟩
abbrev S128x1x256 : Shape := ⟨3, ![128, 1, 256]⟩
abbrev S128x8x256 : Shape := ⟨3, ![128, 8, 256]⟩
abbrev S1024x256 : Shape := ⟨2, ![1024, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S128x1x8192, .bf16⟩
  | .hbm, ⟨1, _⟩ => ⟨S45056x1024, .i32⟩
  | .hbm, ⟨2, _⟩ => ⟨S64x5632, .i32⟩
  | .hbm, ⟨3, _⟩ => ⟨S64x45056, .bf16⟩
  | .hbm, ⟨4, _⟩ => ⟨S128x8192, .bf16⟩
  | .hbm, ⟨5, _⟩ => ⟨S128x45056, .bf16⟩
  | .local _ .vmem, ⟨0, _⟩ => ⟨S128x8192, .bf16⟩
  | .local _ .vmem, ⟨1, _⟩ => ⟨S1024x1024, .i32⟩
  | .local _ .vmem, ⟨2, _⟩ => ⟨S1024x1024, .i32⟩
  | .local _ .vmem, ⟨3, _⟩ => ⟨S64x128, .i32⟩
  | .local _ .vmem, ⟨4, _⟩ => ⟨S64x128, .i32⟩
  | .local _ .vmem, ⟨5, _⟩ => ⟨S64x1024, .bf16⟩
  | .local _ .vmem, ⟨6, _⟩ => ⟨S64x1024, .bf16⟩
  | .local _ .vmem, ⟨7, _⟩ => ⟨S128x1024, .bf16⟩
  | .local _ .vmem, ⟨8, _⟩ => ⟨S128x1024, .bf16⟩
  | .local _ .vmem, ⟨9, _⟩ => ⟨S128x8192, .bf16⟩
  | .local _ .vmem, ⟨10, _⟩ => ⟨S64x1024, .f32⟩
  | .local _ .vmem, ⟨11, _⟩ => ⟨S64x1024, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x8192 : Shape := ⟨3, ![128, 1, 8192]⟩
abbrev S45056x1024 : Shape := ⟨2, ![45056, 1024]⟩
abbrev S64x5632 : Shape := ⟨2, ![64, 5632]⟩
abbrev S64x45056 : Shape := ⟨2, ![64, 45056]⟩
abbrev S8 : Shape := ⟨1, ![8]⟩
abbrev S_ : Shape := ⟨0, ![]⟩
abbrev S64x5632x1 : Shape := ⟨3, ![64, 5632, 1]⟩
abbrev S64x5632x8 : Shape := ⟨3, ![64, 5632, 8]⟩
abbrev S45056x64 : Shape := ⟨2, ![45056, 64]⟩
abbrev S45056x64x1x1 : Shape := ⟨4, ![45056, 64, 1, 1]⟩
abbrev S45056x1024x1 : Shape := ⟨3, ![45056, 1024, 1]⟩
abbrev S1x1x8 : Shape := ⟨3, ![1, 1, 8]⟩
abbrev S45056x1024x8 : Shape := ⟨3, ![45056, 1024, 8]⟩
abbrev S45056x64x16x8 : Shape := ⟨4, ![45056, 64, 16, 8]⟩
abbrev S45056x8192 : Shape := ⟨2, ![45056, 8192]⟩
abbrev S128x1x1024x8 : Shape := ⟨4, ![128, 1, 1024, 8]⟩
abbrev S8x1 : Shape := ⟨2, ![8, 1]⟩
abbrev S1 : Shape := ⟨1, ![1]⟩
abbrev S1x1 : Shape := ⟨2, ![1, 1]⟩
abbrev S128x1x45056 : Shape := ⟨3, ![128, 1, 45056]⟩
abbrev S128x45056 : Shape := ⟨2, ![128, 45056]⟩

abbrev nBuf : Space → Nat
  | .hbm => 115
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S45056x1024, .i32⟩
  | .hbm, ⟨2, _⟩ => ⟨S64x5632, .i32⟩
  | .hbm, ⟨3, _⟩ => ⟨S64x45056, .bf16⟩
  | .hbm, ⟨4, _⟩ => ⟨S8, .i32⟩
  | .hbm, ⟨5, _⟩ => ⟨S_, .i32⟩
  | .hbm, ⟨6, _⟩ => ⟨S64x5632, .i32⟩
  | .hbm, ⟨7, _⟩ => ⟨S64x5632, .i32⟩
  | .hbm, ⟨8, _⟩ => ⟨S_, .i32⟩
  | .hbm, ⟨9, _⟩ => ⟨S64x5632, .i32⟩
  | .hbm, ⟨10, _⟩ => ⟨S64x5632, .i32⟩
  | .hbm, ⟨11, _⟩ => ⟨S_, .i32⟩
  | .hbm, ⟨12, _⟩ => ⟨S64x5632, .i32⟩
  | .hbm, ⟨13, _⟩ => ⟨S64x5632, .i32⟩
  | .hbm, ⟨14, _⟩ => ⟨S_, .i32⟩
  | .hbm, ⟨15, _⟩ => ⟨S64x5632, .i32⟩
  | .hbm, ⟨16, _⟩ => ⟨S64x5632, .i32⟩
  | .hbm, ⟨17, _⟩ => ⟨S_, .i32⟩
  | .hbm, ⟨18, _⟩ => ⟨S64x5632, .i32⟩
  | .hbm, ⟨19, _⟩ => ⟨S64x5632, .i32⟩
  | .hbm, ⟨20, _⟩ => ⟨S_, .i32⟩
  | .hbm, ⟨21, _⟩ => ⟨S64x5632, .i32⟩
  | .hbm, ⟨22, _⟩ => ⟨S64x5632, .i32⟩
  | .hbm, ⟨23, _⟩ => ⟨S_, .i32⟩
  | .hbm, ⟨24, _⟩ => ⟨S64x5632, .i32⟩
  | .hbm, ⟨25, _⟩ => ⟨S64x5632, .i32⟩
  | .hbm, ⟨26, _⟩ => ⟨S_, .i32⟩
  | .hbm, ⟨27, _⟩ => ⟨S64x5632, .i32⟩
  | .hbm, ⟨28, _⟩ => ⟨S64x5632, .i32⟩
  | .hbm, ⟨29, _⟩ => ⟨S_, .i32⟩
  | .hbm, ⟨30, _⟩ => ⟨S64x5632, .i32⟩
  | .hbm, ⟨31, _⟩ => ⟨S64x5632, .i32⟩
  | .hbm, ⟨32, _⟩ => ⟨S_, .i32⟩
  | .hbm, ⟨33, _⟩ => ⟨S64x5632, .i32⟩
  | .hbm, ⟨34, _⟩ => ⟨S64x5632, .i32⟩
  | .hbm, ⟨35, _⟩ => ⟨S_, .i32⟩
  | .hbm, ⟨36, _⟩ => ⟨S64x5632, .i32⟩
  | .hbm, ⟨37, _⟩ => ⟨S64x5632, .i32⟩
  | .hbm, ⟨38, _⟩ => ⟨S_, .i32⟩
  | .hbm, ⟨39, _⟩ => ⟨S64x5632, .i32⟩
  | .hbm, ⟨40, _⟩ => ⟨S64x5632, .i32⟩
  | .hbm, ⟨41, _⟩ => ⟨S_, .i32⟩
  | .hbm, ⟨42, _⟩ => ⟨S64x5632, .i32⟩
  | .hbm, ⟨43, _⟩ => ⟨S64x5632, .i32⟩
  | .hbm, ⟨44, _⟩ => ⟨S_, .i32⟩
  | .hbm, ⟨45, _⟩ => ⟨S64x5632, .i32⟩
  | .hbm, ⟨46, _⟩ => ⟨S64x5632, .i32⟩
  | .hbm, ⟨47, _⟩ => ⟨S_, .i32⟩
  | .hbm, ⟨48, _⟩ => ⟨S64x5632, .i32⟩
  | .hbm, ⟨49, _⟩ => ⟨S64x5632, .i32⟩
  | .hbm, ⟨50, _⟩ => ⟨S_, .i32⟩
  | .hbm, ⟨51, _⟩ => ⟨S64x5632, .i32⟩
  | .hbm, ⟨52, _⟩ => ⟨S64x5632, .i32⟩
  | .hbm, ⟨53, _⟩ => ⟨S64x5632x1, .i32⟩
  | .hbm, ⟨54, _⟩ => ⟨S64x5632x1, .i32⟩
  | .hbm, ⟨55, _⟩ => ⟨S64x5632x1, .i32⟩
  | .hbm, ⟨56, _⟩ => ⟨S64x5632x1, .i32⟩
  | .hbm, ⟨57, _⟩ => ⟨S64x5632x1, .i32⟩
  | .hbm, ⟨58, _⟩ => ⟨S64x5632x1, .i32⟩
  | .hbm, ⟨59, _⟩ => ⟨S64x5632x1, .i32⟩
  | .hbm, ⟨60, _⟩ => ⟨S64x5632x1, .i32⟩
  | .hbm, ⟨61, _⟩ => ⟨S64x5632x8, .i32⟩
  | .hbm, ⟨62, _⟩ => ⟨S64x45056, .i32⟩
  | .hbm, ⟨63, _⟩ => ⟨S45056x64, .i32⟩
  | .hbm, ⟨64, _⟩ => ⟨S45056x64, .bf16⟩
  | .hbm, ⟨65, _⟩ => ⟨S45056x64x1x1, .bf16⟩
  | .hbm, ⟨66, _⟩ => ⟨S45056x64, .bf16⟩
  | .hbm, ⟨67, _⟩ => ⟨S45056x64x1x1, .bf16⟩
  | .hbm, ⟨68, _⟩ => ⟨S8, .i32⟩
  | .hbm, ⟨69, _⟩ => ⟨S_, .i32⟩
  | .hbm, ⟨70, _⟩ => ⟨S8, .i32⟩
  | .hbm, ⟨71, _⟩ => ⟨S8, .i32⟩
  | .hbm, ⟨72, _⟩ => ⟨S45056x1024x1, .i32⟩
  | .hbm, ⟨73, _⟩ => ⟨S1x1x8, .i32⟩
  | .hbm, ⟨74, _⟩ => ⟨S45056x1024x8, .i32⟩
  | .hbm, ⟨75, _⟩ => ⟨S45056x1024x8, .i32⟩
  | .hbm, ⟨76, _⟩ => ⟨S45056x1024x8, .i32⟩
  | .hbm, ⟨77, _⟩ => ⟨S_, .i32⟩
  | .hbm, ⟨78, _⟩ => ⟨S45056x1024x8, .i32⟩
  | .hbm, ⟨79, _⟩ => ⟨S45056x1024x8, .i32⟩
  | .hbm, ⟨80, _⟩ => ⟨S45056x1024x8, .bf16⟩
  | .hbm, ⟨81, _⟩ => ⟨S45056x64x16x8, .bf16⟩
  | .hbm, ⟨82, _⟩ => ⟨S45056x64x16x8, .bf16⟩
  | .hbm, ⟨83, _⟩ => ⟨S45056x64x16x8, .bf16⟩
  | .hbm, ⟨84, _⟩ => ⟨S45056x64x16x8, .bf16⟩
  | .hbm, ⟨85, _⟩ => ⟨S45056x64x16x8, .bf16⟩
  | .hbm, ⟨86, _⟩ => ⟨S45056x8192, .bf16⟩
  | .hbm, ⟨87, _⟩ => ⟨S128x1x1024x8, .bf16⟩
  | .hbm, ⟨88, _⟩ => ⟨S_, .i32⟩
  | .hbm, ⟨89, _⟩ => ⟨S8, .i32⟩
  | .hbm, ⟨90, _⟩ => ⟨S8, .i1⟩
  | .hbm, ⟨91, _⟩ => ⟨S_, .i32⟩
  | .hbm, ⟨92, _⟩ => ⟨S8, .i32⟩
  | .hbm, ⟨93, _⟩ => ⟨S8, .i32⟩
  | .hbm, ⟨94, _⟩ => ⟨S8, .i32⟩
  | .hbm, ⟨95, _⟩ => ⟨S8x1, .i32⟩
  | .hbm, ⟨96, _⟩ => ⟨S1, .i32⟩
  | .hbm, ⟨97, _⟩ => ⟨S_, .i32⟩
  | .hbm, ⟨98, _⟩ => ⟨S8x1, .i32⟩
  | .hbm, ⟨99, _⟩ => ⟨S8x1, .i1⟩
  | .hbm, ⟨100, _⟩ => ⟨S1x1, .i32⟩
  | .hbm, ⟨101, _⟩ => ⟨S8x1, .i32⟩
  | .hbm, ⟨102, _⟩ => ⟨S8x1, .i1⟩
  | .hbm, ⟨103, _⟩ => ⟨S8x1, .i1⟩
  | .hbm, ⟨104, _⟩ => ⟨S_, .i1⟩
  | .hbm, ⟨105, _⟩ => ⟨S8, .i1⟩
  | .hbm, ⟨106, _⟩ => ⟨S128x1x1024x8, .bf16⟩
  | .hbm, ⟨107, _⟩ => ⟨S128x1x1024x8, .i1⟩
  | .hbm, ⟨108, _⟩ => ⟨S_, .bf16⟩
  | .hbm, ⟨109, _⟩ => ⟨S128x1x1024x8, .bf16⟩
  | .hbm, ⟨110, _⟩ => ⟨S128x1x1024x8, .bf16⟩
  | .hbm, ⟨111, _⟩ => ⟨S128x1x8192, .bf16⟩
  | .hbm, ⟨112, _⟩ => ⟨S128x1x45056, .f32⟩
  | .hbm, ⟨113, _⟩ => ⟨S128x1x45056, .bf16⟩
  | .hbm, ⟨114, _⟩ => ⟨S128x45056, .bf16⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_c_4 : Ref sig .tc := ⟨.hbm, 17, rfl⟩
abbrev main_v8 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_c_9 : Ref sig .tc := ⟨.hbm, 32, rfl⟩
abbrev main_v18 : Ref sig .tc := ⟨.hbm, 33, rfl⟩
abbrev main_v19 : Ref sig .tc := ⟨.hbm, 34, rfl⟩
abbrev main_c_10 : Ref sig .tc := ⟨.hbm, 35, rfl⟩
abbrev main_v20 : Ref sig .tc := ⟨.hbm, 36, rfl⟩
abbrev main_v21 : Ref sig .tc := ⟨.hbm, 37, rfl⟩
abbrev main_c_11 : Ref sig .tc := ⟨.hbm, 38, rfl⟩
abbrev main_v22 : Ref sig .tc := ⟨.hbm, 39, rfl⟩
abbrev main_v23 : Ref sig .tc := ⟨.hbm, 40, rfl⟩
abbrev main_c_12 : Ref sig .tc := ⟨.hbm, 41, rfl⟩
abbrev main_v24 : Ref sig .tc := ⟨.hbm, 42, rfl⟩
abbrev main_v25 : Ref sig .tc := ⟨.hbm, 43, rfl⟩
abbrev main_c_13 : Ref sig .tc := ⟨.hbm, 44, rfl⟩
abbrev main_v26 : Ref sig .tc := ⟨.hbm, 45, rfl⟩
abbrev main_v27 : Ref sig .tc := ⟨.hbm, 46, rfl⟩
abbrev main_c_14 : Ref sig .tc := ⟨.hbm, 47, rfl⟩
abbrev main_v28 : Ref sig .tc := ⟨.hbm, 48, rfl⟩
abbrev main_v29 : Ref sig .tc := ⟨.hbm, 49, rfl⟩
abbrev main_c_15 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_17 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call0_c : Ref sig .tc := ⟨.hbm, 88, rfl⟩
abbrev main_call0_v0 : Ref sig .tc := ⟨.hbm, 89, rfl⟩
abbrev main_call0_v1 : Ref sig .tc := ⟨.hbm, 90, rfl⟩
abbrev main_call0_c_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_c_1 : Ref sig .tc := ⟨.hbm, 96, rfl⟩
abbrev main_call0_c_2 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_c_3 : Ref sig .tc := ⟨.hbm, 104, rfl⟩
abbrev main_call0_v12 : Ref sig .tc := ⟨.hbm, 105, rfl⟩
abbrev main_call0_v13 : Ref sig .tc := ⟨.hbm, 106, rfl⟩
abbrev main_call0_v14 : Ref sig .tc := ⟨.hbm, 107, rfl⟩
abbrev main_call0_cst : Ref sig .tc := ⟨.hbm, 108, rfl⟩
abbrev main_call0_v15 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩

abbrev nD : Nat := 1
abbrev τ : Topo := Topo.v7x

variable {F : FTy → Type} [FloatOps F]
-- ==== Proof.Tile.lean ====
/- The kernel body's stores as one tile function: each of the four output pieces of a grid point is the same function
   `tile` of the packed words, the zero-point rows, the scale rows and the permuted activations that the body loads.
   Hand-written, untrusted. -/
module

public import proofs.«01_k».proof.Proof.Gen.KernelIdeal.Frame
public import Idealize.ShloMosaic.Lib.Pipeline.Value

@[expose] public section

set_option maxRecDepth 16384

noncomputable section

namespace Cert.Proof.Tile

open Cert.KernelIdeal Cert.KernelIdeal.Gen Idealize.ShloMosaic Idealize.ShloMosaic.TcCoe Idealize.ShloMosaic.Tactic

variable {F : FTy → Type} [FloatOps F]

/-- One group of 128 dequantised rows: (codes - zero) * scale, from the codes of its chunk. -/
def grp (off : Fin 2 → Nat) (cd : FVec F S1024x256 .bf16) (h : S1024x256.Slices off S128x256) (z s : Vec F S1x256 .f32) : FVec F S128x256 .bf16 :=
  mulf (subf (extractStridedSlice S128x256 off cd h)
      (broadcastTo S128x256 (shapeCast S1x256 (truncf .bf16 z bitsLt_bf16_f32) shapeCasts_S1x256_S1x256) broadcasts_S1x256_S128x256))
    (broadcastTo S128x256 (shapeCast S1x256 (truncf .bf16 s bitsLt_bf16_f32) shapeCasts_S1x256_S1x256) broadcasts_S1x256_S128x256)

/-- One chunk of 1024 dequantised rows: eight groups stacked. -/
def wchunk (q : Vec F S256x128 .i32) (z s : Fin 8 → Vec F S1x256 .f32) : FVec F S1024x256 .bf16 :=
  concatenate S1024x256 0 [
    ⟨S128x256, grp ![0, 0] (k0_pay111 q) slices_S1024x256_o0_0_S128x256 (z 0) (s 0)⟩,
    ⟨S128x256, grp ![128, 0] (k0_pay111 q) slices_S1024x256_o128_0_S128x256 (z 1) (s 1)⟩,
    ⟨S128x256, grp ![256, 0] (k0_pay111 q) slices_S1024x256_o256_0_S128x256 (z 2) (s 2)⟩,
    ⟨S128x256, grp ![384, 0] (k0_pay111 q) slices_S1024x256_o384_0_S128x256 (z 3) (s 3)⟩,
    ⟨S128x256, grp ![512, 0] (k0_pay111 q) slices_S1024x256_o512_0_S128x256 (z 4) (s 4)⟩,
    ⟨S128x256, grp ![640, 0] (k0_pay111 q) slices_S1024x256_o640_0_S128x256 (z 5) (s 5)⟩,
    ⟨S128x256, grp ![768, 0] (k0_pay111 q) slices_S1024x256_o768_0_S128x256 (z 6) (s 6)⟩,
    ⟨S128x256, grp ![896, 0] (k0_pay111 q) slices_S1024x256_o896_0_S128x256 (z 7) (s 7)⟩]
    concatenates_S128x256_S128x256_S128x256_S128x256_S128x256_S128x256_S128x256_S128x256_S1024x256_d0

/-- The accumulator after one chunk's product. -/
def chunk (acc : FVec F S128x256 .f32) (q : Vec F S256x128 .i32) (z s : Fin 8 → Vec F S1x256 .f32) (xc : Vec F S128x1024 .bf16) : FVec F S128x256 .f32 :=
  addf acc (matmul dot_S128x1024_S1024x256_S128x256_1_0_0_1_n_n none xc (wchunk q z s) (constant S128x256 .f32 0x00000000#32))

/-- One output tile: eight chunks accumulated from zero, rounded once. -/
def tile (q : Fin 8 → Vec F S256x128 .i32) (z s : Fin 8 → Fin 8 → Vec F S1x256 .f32) (xc : Fin 8 → Vec F S128x1024 .bf16) : FVec F S128x256 .bf16 :=
  truncf .bf16 (chunk (chunk (chunk (chunk (chunk (chunk (chunk (chunk (broadcast S128x256 (Scalar.ofBits .f32 0x00000000#32))
    (q 0) (z 0) (s 0) (xc 0)) (q 1) (z 1) (s 1) (xc 1)) (q 2) (z 2) (s 2) (xc 2)) (q 3) (z 3) (s 3) (xc 3))
    (q 4) (z 4) (s 4) (xc 4)) (q 5) (z 5) (s 5) (xc 5)) (q 6) (z 6) (s 6) (xc 6)) (q 7) (z 7) (s 7) (xc 7)) bitsLt_bf16_f32

theorem inbQ (t : Fin 4) (ch : Fin 8) : ∀ a, (![256 * t.val, 128 * ch.val] : Fin 2 → Nat) a + S256x128.size a ≤ S1024x1024.size a := by
  revert t ch; decide
theorem inbR (g : Fin 64) (t : Fin 4) : ∀ a, (![g.val, 256 * t.val] : Fin 2 → Nat) a + S1x256.size a ≤ S64x1024.size a := by
  intro a; fin_cases a
  · show g.val + 1 ≤ 64; omega
  · show 256 * t.val + 256 ≤ 1024; omega
theorem inbX (ch : Fin 8) : ∀ a, (![0, 1024 * ch.val] : Fin 2 → Nat) a + S128x1024.size a ≤ S128x8192.size a := by
  revert ch; decide
theorem inbO (t : Fin 4) : ∀ a, (![0, 256 * t.val] : Fin 2 → Nat) a + S128x256.size a ≤ S128x1024.size a := by
  revert t; decide

/-- The group number of group `j` of chunk `ch`. -/
def gix (ch j : Fin 8) : Fin 64 := ⟨8 * ch.val + j.val, by omega⟩

/-- The four pieces of an output block, from whole-block contents. -/
def piece (q : Fin 4 → Fin 8 → Vec F S256x128 .i32) (z s : Fin 4 → Fin 64 → Vec F S1x256 .f32) (xc : Fin 8 → Vec F S128x1024 .bf16) (t : Fin 4) :
    View.Piece (Elt F) S128x1024 .bf16 :=
  ⟨Rect.unit ![0, 256 * t.val] S128x256.size (inbO t), tile (q t) (fun ch j => z t (gix ch j)) (fun ch j => s t (gix ch j)) xc⟩

/-- The list of the four pieces, last stored first. -/
def pieces (q : Fin 4 → Fin 8 → Vec F S256x128 .i32) (z s : Fin 4 → Fin 64 → Vec F S1x256 .f32) (xc : Fin 8 → Vec F S128x1024 .bf16) :
    List (View.Piece (Elt F) S128x1024 .bf16) :=
  [piece q z s xc 3, piece q z s xc 2, piece q z s xc 1, piece q z s xc 0]

end Cert.Proof.Tile
-- ==== Proof.ScratchPieces.lean ====
/- What the kernel body leaves in its scratch arrays: the expanded zero points, the scales and, at the first grid point,
   the permuted activations, each list of stores as one function mapped over the store's number. Hand-written, untrusted. -/
module

public import proofs.«01_k».proof.Proof.Tile
public import Idealize.ShloMosaic.Lib.Pipeline.Value

@[expose] public section

set_option maxRecDepth 16384

noncomputable section

namespace Cert.Proof.Tile

open Cert.KernelIdeal Cert.KernelIdeal.Gen Idealize.ShloMosaic Idealize.ShloMosaic.TcCoe Idealize.ShloMosaic.Tactic

variable {F : FTy → Type} [FloatOps F]

/-- The lane permutation of one 128-column piece of the activations. -/
def xperm (x : Vec F S128x128 .bf16) : FVec F S128x128 .bf16 := k0_pay3 x

/-- The expanded zero points of lanes 128 j .. 128 j + 127. -/
def zexp (j : Fin 8) (qz : Vec F S64x128 .i32) : FVec F S64x128 .f32 :=
  k0_pay99 k0_pay96 (addi (shrsi (iota .tc S64x128 32 [1] iota_S64x128_d1_w32) (broadcast S64x128 3#32)) (broadcast S64x128 (BitVec.ofNat 32 (16 * j.val)))) qz

theorem inbZ (j : Fin 8) : ∀ a, (![0, 128 * j.val] : Fin 2 → Nat) a + S64x128.size a ≤ S64x1024.size a := by
  revert j; decide
theorem inbP (g : Fin 64) : ∀ a, (![0, 128 * g.val] : Fin 2 → Nat) a + S128x128.size a ≤ S128x8192.size a := by
  intro a; fin_cases a
  · show 0 + 128 ≤ 128; omega
  · show 128 * g.val + 128 ≤ 8192; omega

/-- The zero-point stores, last first. -/
def zpieces (qz : Vec F S64x128 .i32) : List (View.Piece (Elt F) S64x1024 .f32) :=
  [7, 6, 5, 4, 3, 2, 1, 0].map fun j : Fin 8 => ⟨Rect.unit (s := S64x1024) ![0, 128 * j.val] S64x128.size (inbZ j), zexp j qz⟩

/-- The activation stores, last first. -/
def xpieces (x : Fin 64 → Vec F S128x128 .bf16) : List (View.Piece (Elt F) S128x8192 .bf16) :=
  [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0].map fun g : Fin 64 => ⟨Rect.unit (s := S128x8192) ![0, 128 * g.val] S128x128.size (inbP g), xperm (x g)⟩

/-- In case B the zero-point stores. -/
theorem zrun_B (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : ¬cond0_0 i)
    (x0 : Vec F S128x8192 .bf16) (x1 : Vec F S1024x1024 .i32) (x2 : Vec F S64x128 .i32) (x3 : Vec F S64x1024 .bf16) (xs0 : Vec F S128x8192 .bf16) :
    (kernelRun0_B c i arg1 harg1 arg2 harg2 arg3 harg3 arg4 harg4 arg5 harg5 arg6 harg6 arg7 harg7 arg8 harg8 hc0 x0 x1 x2 x3 xs0).2.2.1 = zpieces (View.readAt (Elt F) arg3.view (Rect.unit (s := S64x128) ![0, 0] S64x128.size inb_S64x128_S64x128_0_0).toLoadRect (harg3.unread x2)) := by
  sl_kernel_rfl

/-- In case B the scale store. -/
theorem srun_B (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : ¬cond0_0 i)
    (x0 : Vec F S128x8192 .bf16) (x1 : Vec F S1024x1024 .i32) (x2 : Vec F S64x128 .i32) (x3 : Vec F S64x1024 .bf16) (xs0 : Vec F S128x8192 .bf16) :
    (kernelRun0_B c i arg1 harg1 arg2 harg2 arg3 harg3 arg4 harg4 arg5 harg5 arg6 harg6 arg7 harg7 arg8 harg8 hc0 x0 x1 x2 x3 xs0).2.2.2.1 = [⟨Rect.unit (s := S64x1024) ![0, 0] S64x1024.size inb_S64x1024_S64x1024_0_0, k0_pay109 (View.readAt (Elt F) arg4.view (Rect.unit (s := S64x1024) ![0, 0] S64x1024.size inb_S64x1024_S64x1024_0_0).toLoadRect (harg4.unread x3))⟩] := by
  sl_kernel_rfl

/-- In case A the zero-point stores. -/
theorem zrun_A (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : cond0_0 i)
    (x0 : Vec F S128x8192 .bf16) (x1 : Vec F S1024x1024 .i32) (x2 : Vec F S64x128 .i32) (x3 : Vec F S64x1024 .bf16) :
    (kernelRun0_A c i arg1 harg1 arg2 harg2 arg3 harg3 arg4 harg4 arg5 harg5 arg6 harg6 arg7 harg7 arg8 harg8 hc0 x0 x1 x2 x3).2.2.1 = zpieces (View.readAt (Elt F) arg3.view (Rect.unit (s := S64x128) ![0, 0] S64x128.size inb_S64x128_S64x128_0_0).toLoadRect (harg3.unread x2)) := by
  sl_kernel_rfl

/-- In case A the scale store. -/
theorem srun_A (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : cond0_0 i)
    (x0 : Vec F S128x8192 .bf16) (x1 : Vec F S1024x1024 .i32) (x2 : Vec F S64x128 .i32) (x3 : Vec F S64x1024 .bf16) :
    (kernelRun0_A c i arg1 harg1 arg2 harg2 arg3 harg3 arg4 harg4 arg5 harg5 arg6 harg6 arg7 harg7 arg8 harg8 hc0 x0 x1 x2 x3).2.2.2.1 = [⟨Rect.unit (s := S64x1024) ![0, 0] S64x1024.size inb_S64x1024_S64x1024_0_0, k0_pay109 (View.readAt (Elt F) arg4.view (Rect.unit (s := S64x1024) ![0, 0] S64x1024.size inb_S64x1024_S64x1024_0_0).toLoadRect (harg4.unread x3))⟩] := by
  sl_kernel_rfl

/-- In case A the activation stores. -/
theorem xrun_A (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : cond0_0 i)
    (x0 : Vec F S128x8192 .bf16) (x1 : Vec F S1024x1024 .i32) (x2 : Vec F S64x128 .i32) (x3 : Vec F S64x1024 .bf16) :
    (kernelRun0_A c i arg1 harg1 arg2 harg2 arg3 harg3 arg4 harg4 arg5 harg5 arg6 harg6 arg7 harg7 arg8 harg8 hc0 x0 x1 x2 x3).2.1 = xpieces (fun g => View.readAt (Elt F) arg1.view (Rect.unit (s := S128x8192) ![0, 128 * g.val] S128x128.size (inbP g)).toLoadRect (harg1.unread x0)) := by
  sl_kernel_rfl

end Cert.Proof.Tile
-- ==== Proof.RefVal.lean ====
/- What the reference computes, read at an index: the permuted activations, the dequantised weight and their
   contraction, each a lemma of its own. Hand-written, untrusted. -/
module

public import proofs.«01_k».proof.Proof.Gen.ReferenceIdeal.Run
public import Idealize.ShloMosaic.Lib.Pointwise
public import Idealize.ShloMosaic.PureOps.Ideal

@[expose] public section

noncomputable section

namespace Cert.Proof.Ref

open Cert.ReferenceIdeal Cert.ReferenceIdeal.Gen Idealize.ShloMosaic Idealize.ShloMosaic.TcCoe Idealize.SL.Sem Idealize.ShloMosaic.StableHlo

/-- The eight stacked zero-point fields of each packed word. -/
def zs (qz : IVec S64x5632 32) : IVec S64x5632x8 32 :=
  (concatenate S64x5632x8 2 [⟨S64x5632x1, ((broadcastInDim S64x5632x1 ![0, 1] bcast_S64x5632_S64x5632x1_0_1 (andi (Host.shrsi qz (broadcastInDim S64x5632 ![] bcast_S_S64x5632 (constantI S_ 32 0#32))) (broadcastInDim S64x5632 ![] bcast_S_S64x5632 (constantI S_ 32 15#32)))) : (⟨S64x5632x1, .i32⟩ : BufTy).Contents (Elt Ideal))⟩, ⟨S64x5632x1, ((broadcastInDim S64x5632x1 ![0, 1] bcast_S64x5632_S64x5632x1_0_1 (andi (Host.shrsi qz (broadcastInDim S64x5632 ![] bcast_S_S64x5632 (constantI S_ 32 16#32))) (broadcastInDim S64x5632 ![] bcast_S_S64x5632 (constantI S_ 32 15#32)))) : (⟨S64x5632x1, .i32⟩ : BufTy).Contents (Elt Ideal))⟩, ⟨S64x5632x1, ((broadcastInDim S64x5632x1 ![0, 1] bcast_S64x5632_S64x5632x1_0_1 (andi (Host.shrsi qz (broadcastInDim S64x5632 ![] bcast_S_S64x5632 (constantI S_ 32 4#32))) (broadcastInDim S64x5632 ![] bcast_S_S64x5632 (constantI S_ 32 15#32)))) : (⟨S64x5632x1, .i32⟩ : BufTy).Contents (Elt Ideal))⟩, ⟨S64x5632x1, ((broadcastInDim S64x5632x1 ![0, 1] bcast_S64x5632_S64x5632x1_0_1 (andi (Host.shrsi qz (broadcastInDim S64x5632 ![] bcast_S_S64x5632 (constantI S_ 32 20#32))) (broadcastInDim S64x5632 ![] bcast_S_S64x5632 (constantI S_ 32 15#32)))) : (⟨S64x5632x1, .i32⟩ : BufTy).Contents (Elt Ideal))⟩, ⟨S64x5632x1, ((broadcastInDim S64x5632x1 ![0, 1] bcast_S64x5632_S64x5632x1_0_1 (andi (Host.shrsi qz (broadcastInDim S64x5632 ![] bcast_S_S64x5632 (constantI S_ 32 8#32))) (broadcastInDim S64x5632 ![] bcast_S_S64x5632 (constantI S_ 32 15#32)))) : (⟨S64x5632x1, .i32⟩ : BufTy).Contents (Elt Ideal))⟩, ⟨S64x5632x1, ((broadcastInDim S64x5632x1 ![0, 1] bcast_S64x5632_S64x5632x1_0_1 (andi (Host.shrsi qz (broadcastInDim S64x5632 ![] bcast_S_S64x5632 (constantI S_ 32 24#32))) (broadcastInDim S64x5632 ![] bcast_S_S64x5632 (constantI S_ 32 15#32)))) : (⟨S64x5632x1, .i32⟩ : BufTy).Contents (Elt Ideal))⟩, ⟨S64x5632x1, ((broadcastInDim S64x5632x1 ![0, 1] bcast_S64x5632_S64x5632x1_0_1 (andi (Host.shrsi qz (broadcastInDim S64x5632 ![] bcast_S_S64x5632 (constantI S_ 32 12#32))) (broadcastInDim S64x5632 ![] bcast_S_S64x5632 (constantI S_ 32 15#32)))) : (⟨S64x5632x1, .i32⟩ : BufTy).Contents (Elt Ideal))⟩, ⟨S64x5632x1, ((broadcastInDim S64x5632x1 ![0, 1] bcast_S64x5632_S64x5632x1_0_1 (andi (Host.shrsi qz (broadcastInDim S64x5632 ![] bcast_S_S64x5632 (constantI S_ 32 28#32))) (broadcastInDim S64x5632 ![] bcast_S_S64x5632 (constantI S_ 32 15#32)))) : (⟨S64x5632x1, .i32⟩ : BufTy).Contents (Elt Ideal))⟩] concatenates_S64x5632x1_S64x5632x1_S64x5632x1_S64x5632x1_S64x5632x1_S64x5632x1_S64x5632x1_S64x5632x1_S64x5632x8_d2 : (⟨S64x5632x8, .i32⟩ : BufTy).Contents (Elt Ideal))

/-- The dequantised weight as the reference computes it. -/
def wt (qw : IVec S45056x1024 32) (qz : IVec S64x5632 32) (sc : S64x45056.Idx → EReal) : S45056x8192.Idx → EReal :=
  (shapeCast S45056x8192 (mulf (F := Ideal) (φ := .bf16) (subf (shapeCast S45056x64x16x8 (sitofp (F := Ideal) .bf16 (andi (Host.shrsi (broadcastInDim S45056x1024x8 ![0, 1, 2] bcast_S45056x1024x1_S45056x1024x8_0_1_2 (broadcastInDim S45056x1024x1 ![0, 1] bcast_S45056x1024_S45056x1024x1_0_1 qw)) (broadcastInDim S45056x1024x8 ![0, 1, 2] bcast_S1x1x8_S45056x1024x8_0_1_2 (broadcastInDim S1x1x8 ![2] bcast_S8_S1x1x8_2 (muli (broadcastInDim S8 ![] bcast_S_S8 (constantI S_ 32 4#32)) (iotaInDim S8 32 0))))) (broadcastInDim S45056x1024x8 ![] bcast_S_S45056x1024x8 (constantI S_ 32 15#32)))) shapeCasts_S45056x1024x8_S45056x64x16x8) (broadcastInDim S45056x64x16x8 ![0, 1, 2, 3] bcast_S45056x64x1x1_S45056x64x16x8_0_1_2_3 (broadcastInDim S45056x64x1x1 ![0, 1] bcast_S45056x64_S45056x64x1x1_0_1 (sitofp (F := Ideal) .bf16 (transpose S45056x64 [1, 0] (shapeCast S64x45056 ((zs qz)) shapeCasts_S64x5632x8_S64x45056) transposes_S64x45056_S45056x64_1_0))))) (broadcastInDim S45056x64x16x8 ![0, 1, 2, 3] bcast_S45056x64x1x1_S45056x64x16x8_0_1_2_3 (broadcastInDim S45056x64x1x1 ![0, 1] bcast_S45056x64_S45056x64x1x1_0_1 (transpose S45056x64 [1, 0] sc transposes_S64x45056_S45056x64_1_0)))) shapeCasts_S45056x64x16x8_S45056x8192)

/-- The start indices of the reference's gather. -/
def gidx : IVec S8 32 := (select (cmpi .slt ((fun i => lit0 (S8.rowMajor i))) (broadcastInDim S8 ![] bcast_S_S8 (constantI S_ 32 0#32))) (addi ((fun i => lit0 (S8.rowMajor i))) (broadcastInDim S8 ![] bcast_S_S8 (constantI S_ 32 8#32))) ((fun i => lit0 (S8.rowMajor i))))

/-- The permuted activations as the reference computes them. -/
def xp (x : S128x1x8192.Idx → EReal) : S128x1x8192.Idx → EReal :=
  (shapeCast S128x1x8192 (select (broadcastInDim S128x1x1024x8 ![3] bcast_S8_S128x1x1024x8_3 (Host.reduce IntOp.andi (andi (cmpi .sge (broadcastInDim S8x1 ![0] bcast_S8_S8x1_0 gidx) (broadcastInDim S8x1 ![] bcast_S_S8x1 (constantI S_ 32 0#32))) (cmpi .sle (broadcastInDim S8x1 ![0] bcast_S8_S8x1_0 gidx) (broadcastInDim S8x1 ![0, 1] bcast_S1x1_S8x1_0_1 (broadcastInDim S1x1 ![1] bcast_S1_S1x1_1 (constantI S1 32 7#32))))) (constantI S_ 1 1#1) reducesTo_S8x1_S8_d1 h_S_)) (Host.gather gather_S128x1x1024x8_S8x1_S128x1x1024x8_012_3_n_n_3_1_128110241 (shapeCast S128x1x1024x8 x shapeCasts_S128x1x8192_S128x1x1024x8) (broadcastInDim S8x1 ![0] bcast_S8_S8x1_0 gidx)) (broadcastInDim S128x1x1024x8 ![] bcast_S_S128x1x1024x8 (constant (F := Ideal) S_ .bf16 0x7FC0#16))) shapeCasts_S128x1x1024x8_S128x1x8192)

set_option maxRecDepth 16384 in
/-- The reference's result is the contraction of `xp` and `wt`. -/
theorem res_eq (m : (ℓ : Loc nD τ sig) → Buf (Elt Ideal) ℓ) (c : Dev nD) :
    Value.res_main_v69 m c = shapeCast S128x45056 (truncf (F := Ideal) (φ := .f32) .bf16 (Host.dotGeneral (F := Ideal) (φ₁ := .bf16) (φ₂ := .bf16) dot_S128x1x8192_S45056x8192_S128x1x45056_2_1_01_0_n_n none
      (xp (m ((c.tc : Thread nD τ).loc main_arg0)))
      (wt (m ((c.tc : Thread nD τ).loc main_arg1)) (m ((c.tc : Thread nD τ).loc main_arg2)) (m ((c.tc : Thread nD τ).loc main_arg3)))) bitsLt_bf16_f32) shapeCasts_S128x1x45056_S128x45056 := by
  unfold Value.res_main_v69 xp wt zs gidx
  rfl

/-- The shift of zero-point field `j` of a packed word. -/
def zsh : Fin 8 → BitVec 32 := ![0#32, 16#32, 4#32, 20#32, 8#32, 24#32, 12#32, 28#32]

/-- The zero-point fields at an index. -/
theorem zs_apply (qz : IVec S64x5632 32) (g : Fin 64) (p : Fin 5632) (j : Fin 8) :
    zs qz (ix3 g p j) = IntOp.andi (IntOp.shrsi .host (qz (ix2 g p)) (zsh j)) 15#32 := by
  unfold zs
  fin_cases j <;> (pointwise [zsh]; try rfl)

/-- The weight at an index. -/
theorem wt_apply (qw : IVec S45056x1024 32) (qz : IVec S64x5632 32) (sc : S64x45056.Idx → EReal) (n : Fin 45056) (k : Fin 8192) :
    wt qw qz sc (ix2 n k) = (FloatOps.sitofp (F := Ideal) FTy.bf16 (IntOp.andi (IntOp.shrsi ArithUnit.host (qw (ix2 n ⟨k / 8, by omega⟩)) (BitVec.ofNat 32 (4 * (k % 8)))) 15#32)
       - FloatOps.sitofp (F := Ideal) FTy.bf16 (IntOp.andi (IntOp.shrsi .host (qz (ix2 ⟨k / 128, by omega⟩ ⟨n / 8, by omega⟩)) (zsh ⟨n % 8, by omega⟩)) 15#32))
      * sc (ix2 ⟨k / 128, by omega⟩ n) := by
  unfold wt
  pointwise [zs_apply]
  have e : (⟨k / 128 * 16 + k / 8 % 16, by omega⟩ : Fin 1024) = ⟨k / 8, by omega⟩ := Fin.ext (by show k.val / 128 * 16 + k.val / 8 % 16 = k.val / 8; omega)
  rw [e]
  have e2 : IntOp.muli (4#32) (BitVec.ofNat 32 (k.val % 8)) = BitVec.ofNat 32 (4 * (k.val % 8)) := by
    have : k.val % 8 < 8 := Nat.mod_lt _ (by decide)
    generalize k.val % 8 = r at *
    interval_cases r <;> rfl
  rw [e2]

/-- The logical place of activation `k` within its word of eight. -/
def perm (k : Fin 8192) : Fin 8192 := ⟨8 * (k.val / 8) + (if k.val % 8 < 4 then 2 * (k.val % 8) else 2 * (k.val % 8) - 7), by split <;> omega⟩

theorem gidx_apply (r : Fin 8) : gidx (ix1 r) = BitVec.ofNat 32 (if r.val < 4 then 2 * r.val else 2 * r.val - 7) := by
  unfold gidx; pointwise []
  fin_cases r <;> rfl

/-- The gather at an index: the operand at the lane its start index names. -/
theorem gather_at (x : S128x1x1024x8.Idx → EReal) (idx : IVec S8x1 32) (b : Fin 128) (w : Fin 1024) (r : Fin 8) :
    Host.gather gather_S128x1x1024x8_S8x1_S128x1x1024x8_012_3_n_n_3_1_128110241 x idx (ix4 b 0 w r)
      = x (ix4 b 0 w ⟨min (idx (ix2 r 0)).toInt.toNat 7, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have hsi : ∀ i, (gather_S128x1x1024x8_S8x1_S128x1x1024x8_012_3_n_n_3_1_128110241).siIdx (ix4 b 0 w r) i = ix2 r 0 := by
    intro i
    funext c; refine Fin.ext ?_
    match c with
    | ⟨0, _⟩ => rfl
    | ⟨1, _⟩ => (show i.val = 0; have := i.isLt; have e : (gather_S128x1x1024x8_S8x1_S128x1x1024x8_012_3_n_n_3_1_128110241).startIndexMap.length = 1 := rfl; omega)
  match a with
  | ⟨0, _⟩ => unfold GatherDims.start; rw [dif_neg (by intro h; revert h; simp [gather_S128x1x1024x8_S8x1_S128x1x1024x8_012_3_n_n_3_1_128110241])]; show 0 + 0 + b.val = b.val; omega
  | ⟨1, _⟩ => unfold GatherDims.start; rw [dif_neg (by intro h; revert h; simp [gather_S128x1x1024x8_S8x1_S128x1x1024x8_012_3_n_n_3_1_128110241])]; rfl
  | ⟨2, _⟩ => unfold GatherDims.start; rw [dif_neg (by intro h; revert h; simp [gather_S128x1x1024x8_S8x1_S128x1x1024x8_012_3_n_n_3_1_128110241])]; show 0 + 0 + w.val = w.val; omega
  | ⟨3, _⟩ =>
    rw [GatherDims.offCoord_eq_zero _ _ _ (fun h => ((GatherDims.mem_sKept _ _).mp h).1 (List.mem_singleton.mpr rfl))]
    unfold GatherDims.start; rw [dif_pos (show (⟨3, by decide⟩ : Fin S128x1x1024x8.rank) ∈ gather_S128x1x1024x8_S8x1_S128x1x1024x8_012_3_n_n_3_1_128110241.startIndexMap from List.mem_singleton.mpr rfl)]; rw [hsi]; rfl

/-- The permuted activations at an index. -/
theorem xp_apply (x : S128x1x8192.Idx → EReal) (b : Fin 128) (k : Fin 8192) :
    xp x (ix3 b 0 k) = x (ix3 b 0 (perm k)) := by
  unfold xp
  have hk : k.val % 8 < 8 := Nat.mod_lt _ (by decide)
  pointwise [gidx_apply, gather_at]
  have key : ∀ r < 8, Scalar.select
      (Finset.fold IntOp.andi (1#1)
        (fun x =>
          IntOp.andi
            (IntOp.cmpi CmpIPredicate.sge (BitVec.ofNat 32 (if r < 4 then 2 * r else 2 * r - 7)) 0#32)
            (IntOp.cmpi CmpIPredicate.sle (BitVec.ofNat 32 (if r < 4 then 2 * r else 2 * r - 7)) 7#32))
        (Finset.univ : Finset (Fin 1))) = Scalar.select (α := EReal) (1#1) := by
    intro r hr
    rw [Finset.univ_unique, Finset.fold_singleton]
    interval_cases r <;> rfl
  rw [key _ hk]
  show x _ = x _
  have e : ∀ r < 8, min (BitVec.ofNat 32 (if r < 4 then 2 * r else 2 * r - 7)).toInt.toNat 7 = if r < 4 then 2 * r else 2 * r - 7 := by
    intro r hr; interval_cases r <;> rfl
  congr 1
  refine congrArg (ix3 b 0) (Fin.ext ?_)
  show k.val / 8 * 8 + min _ 7 = 8 * (k.val / 8) + _
  rw [e _ hk]; omega

/-- The reference's result at an index. -/
theorem res_apply (m : (ℓ : Loc nD τ sig) → Buf (Elt Ideal) ℓ) (c : Dev nD) (b : Fin 128) (n : Fin 45056) :
    Value.res_main_v69 m c (ix2 b n) = ∑ k : Fin 8192, xp (m ((c.tc : Thread nD τ).loc main_arg0)) (ix3 b 0 k)
      * wt (m ((c.tc : Thread nD τ).loc main_arg1)) (m ((c.tc : Thread nD τ).loc main_arg2)) (m ((c.tc : Thread nD τ).loc main_arg3)) (ix2 n k) := by
  rw [res_eq]
  pointwise [dot_S128x1x8192_S45056x8192_S128x1x45056_2_1_01_0_n_n]

end Cert.Proof.Ref
-- ==== Proof.ScrVal.lean ====
/- What the kernel body leaves in its scratch arrays, read at an index over the extended reals. Hand-written, untrusted. -/
module

public import proofs.«01_k».proof.Proof.ScratchPieces
public import proofs.«01_k».proof.Proof.RefVal
public import Idealize.ShloMosaic.Lib.Pointwise

@[expose] public section

set_option maxRecDepth 16384

noncomputable section

namespace Cert.Proof.Tile

open Cert.KernelIdeal Cert.KernelIdeal.Gen Idealize.ShloMosaic Idealize.ShloMosaic.TcCoe Idealize.ShloMosaic.Tactic
open Cert.Proof.Ref (zsh perm)

/-- The lane a lane of the activations is taken from. -/
def lperm (l : Nat) : Nat := 8 * (l / 8) + (if l % 8 < 4 then 2 * (l % 8) else 2 * (l % 8) - 7)

/-- The lane number by eight, as the body's words compute it. -/
theorem zword : ∀ (j : Fin 8) (l : Fin 128), (Scalar.select (IntOp.cmpi CmpIPredicate.slt (IntOp.addi (IntOp.shrsi ArithUnit.vector (BitVec.ofNat 32 l.val) 3#32) (BitVec.ofNat 32 (16 * j.val))) 0#32) (IntOp.addi (IntOp.addi (IntOp.shrsi ArithUnit.vector (BitVec.ofNat 32 l.val) 3#32) (BitVec.ofNat 32 (16 * j.val))) 128#32) (IntOp.addi (IntOp.shrsi ArithUnit.vector (BitVec.ofNat 32 l.val) 3#32) (BitVec.ofNat 32 (16 * j.val)))).toNat % 128 = 16 * j.val + l.val / 8 := by
  decide +kernel

/-- The zero-point shift of a lane, as the body's words compute it. -/
theorem zshift : ∀ l : Fin 128, IntOp.muli (4#32) (IntOp.addi (IntOp.shrsi ArithUnit.vector (IntOp.andi (BitVec.ofNat 32 l.val) 7#32) 1#32) (IntOp.muli (4#32) (IntOp.andi (IntOp.andi (BitVec.ofNat 32 l.val) 7#32) 1#32))) = zsh ⟨l.val % 8, by omega⟩ := by
  decide +kernel

/-- The lane an activation is taken from, as the body's words compute it. -/
theorem xword : ∀ l : Fin 128, (Scalar.select (IntOp.cmpi CmpIPredicate.slt (IntOp.addi (IntOp.addi (IntOp.subi (BitVec.ofNat 32 l.val) (IntOp.andi (BitVec.ofNat 32 l.val) 7#32)) (IntOp.muli (2#32) (IntOp.andi (IntOp.andi (BitVec.ofNat 32 l.val) 7#32) 3#32))) (IntOp.shrsi ArithUnit.vector (IntOp.andi (BitVec.ofNat 32 l.val) 7#32) 2#32)) 0#32) (IntOp.addi (IntOp.addi (IntOp.addi (IntOp.subi (BitVec.ofNat 32 l.val) (IntOp.andi (BitVec.ofNat 32 l.val) 7#32)) (IntOp.muli (2#32) (IntOp.andi (IntOp.andi (BitVec.ofNat 32 l.val) 7#32) 3#32))) (IntOp.shrsi ArithUnit.vector (IntOp.andi (BitVec.ofNat 32 l.val) 7#32) 2#32)) 128#32) (IntOp.addi (IntOp.addi (IntOp.subi (BitVec.ofNat 32 l.val) (IntOp.andi (BitVec.ofNat 32 l.val) 7#32)) (IntOp.muli (2#32) (IntOp.andi (IntOp.andi (BitVec.ofNat 32 l.val) 7#32) 3#32))) (IntOp.shrsi ArithUnit.vector (IntOp.andi (BitVec.ofNat 32 l.val) 7#32) 2#32))).toNat % 128 = lperm l.val := by
  decide +kernel

/-- The expanded zero points of one store at an index. -/
theorem zexp_apply (j : Fin 8) (qz : IVec S64x128 32) (g : Fin 64) (l : Fin 128) :
    zexp (F := Ideal) j qz (ix2 g l) = FloatOps.sitofp (F := Ideal) .f32 (IntOp.andi (IntOp.shrui .vector (qz (ix2 g ⟨16 * j.val + l.val / 8, by omega⟩)) (zsh ⟨l.val % 8, by omega⟩)) 15#32) := by
  unfold zexp k0_pay99 k0_pay96
  pointwise [dynamicGather_apply_norm]
  simp only [zword, zshift]

/-- The permuted activations of one store at an index. -/
theorem xperm_apply (x : S128x128.Idx → EReal) (b l : Fin 128) :
    xperm (F := Ideal) x (ix2 b l) = x (ix2 b ⟨lperm l.val, by unfold lperm; split <;> omega⟩) := by
  unfold xperm k0_pay3 k0_pay2
  pointwise [dynamicGather_apply_norm]
  simp only [xword]

end Cert.Proof.Tile
-- ==== Proof.TileVal.lean ====
/- One output tile at an index over the extended reals. Hand-written, untrusted. -/
module

public import proofs.«01_k».proof.Proof.Tile
public import Idealize.ShloMosaic.Lib.Pointwise

@[expose] public section

set_option maxRecDepth 16384

noncomputable section

namespace Cert.Proof.Tile

open Cert.KernelIdeal Cert.KernelIdeal.Gen Idealize.ShloMosaic Idealize.ShloMosaic.TcCoe Idealize.ShloMosaic.Tactic

/-- Field `k % 8` of a packed word. -/
def code (w : BitVec 32) (r : Nat) : EReal :=
  FloatOps.sitofp (F := Ideal) .bf16 (IntOp.andi (IntOp.shrui .vector w (BitVec.ofNat 32 (4 * r))) 15#32)

/-- The unpacked codes at an index. -/
theorem code_apply (q : IVec S256x128 32) (k : Fin 1024) (n : Fin 256) :
    k0_pay111 (F := Ideal) q (ix2 k n) = code (q (ix2 n ⟨k.val / 8, by omega⟩)) (k.val % 8) := by
  unfold k0_pay111 code
  pointwise []
  have e : IntOp.muli (4#32) (BitVec.ofNat 32 (k.val % 8)) = BitVec.ofNat 32 (4 * (k.val % 8)) := by
    have : k.val % 8 < 8 := Nat.mod_lt _ (by decide)
    generalize k.val % 8 = r at *
    interval_cases r <;> rfl
  rw [e]

/-- A group at an index. -/
theorem grp_apply (o : Nat) (cd : S1024x256.Idx → EReal) (h : S1024x256.Slices ![o, 0] S128x256) (z s : S1x256.Idx → EReal) (k : Fin 128) (n : Fin 256) (ho : o + 128 ≤ 1024) :
    grp (F := Ideal) ![o, 0] cd h z s (ix2 k n) = (cd (ix2 ⟨o + k.val, by omega⟩ n) - z (ix2 0 n)) * s (ix2 0 n) := by
  unfold grp
  pointwise []

/-- The dequantised value, its row and its group renamed. -/
theorem deq_congr (q : IVec S256x128 32) (z s : Fin 8 → S1x256.Idx → EReal) (n : Fin 256) (a b : Fin 1024) (r : Fin 8) (hab : a = b) (hr : b.val / 128 = r.val) :
    (code (q (ix2 n ⟨a.val / 8, by omega⟩)) (a.val % 8) - z r (ix2 0 n)) * s r (ix2 0 n)
      = (code (q (ix2 n ⟨b.val / 8, by omega⟩)) (b.val % 8) - z ⟨b.val / 128, by omega⟩ (ix2 0 n)) * s ⟨b.val / 128, by omega⟩ (ix2 0 n) := by
  subst hab
  obtain ⟨r, hr'⟩ := r
  have hr : a.val / 128 = r := hr
  subst hr
  rfl

/-- Rows 0 to 127 of a chunk are group 0. -/
theorem wchunk_0 (q : IVec S256x128 32) (z s : Fin 8 → S1x256.Idx → EReal) (l : Fin 128) (n : Fin 256) :
    wchunk (F := Ideal) q z s (ix2 ⟨0 + l.val, by omega⟩ n) = grp (F := Ideal) ![0, 0] (k0_pay111 (F := Ideal) q) slices_S1024x256_o0_0_S128x256 (z 0) (s 0) (ix2 l n) := by
  unfold wchunk
  pointwise []

/-- Rows 128 to 255 of a chunk are group 1. -/
theorem wchunk_1 (q : IVec S256x128 32) (z s : Fin 8 → S1x256.Idx → EReal) (l : Fin 128) (n : Fin 256) :
    wchunk (F := Ideal) q z s (ix2 ⟨128 + l.val, by omega⟩ n) = grp (F := Ideal) ![128, 0] (k0_pay111 (F := Ideal) q) slices_S1024x256_o128_0_S128x256 (z 1) (s 1) (ix2 l n) := by
  unfold wchunk
  pointwise []

/-- Rows 256 to 383 of a chunk are group 2. -/
theorem wchunk_2 (q : IVec S256x128 32) (z s : Fin 8 → S1x256.Idx → EReal) (l : Fin 128) (n : Fin 256) :
    wchunk (F := Ideal) q z s (ix2 ⟨256 + l.val, by omega⟩ n) = grp (F := Ideal) ![256, 0] (k0_pay111 (F := Ideal) q) slices_S1024x256_o256_0_S128x256 (z 2) (s 2) (ix2 l n) := by
  unfold wchunk
  pointwise []
  have h0 : ¬ (256 + l.val < 128) := by omega
  have h1 : ¬ (256 + l.val - 128 < 128) := by omega
  have h2 : 256 + l.val - 128 - 128 < 128 := by omega
  rw [dif_neg h0, dif_neg h1, dif_pos h2]
  exact congrArg (fun y => grp (F := Ideal) _ _ _ _ _ (ix2 y n)) (Fin.ext (by show 256 + l.val - 128 - 128 = l.val; omega))

/-- Rows 384 to 511 of a chunk are group 3. -/
theorem wchunk_3 (q : IVec S256x128 32) (z s : Fin 8 → S1x256.Idx → EReal) (l : Fin 128) (n : Fin 256) :
    wchunk (F := Ideal) q z s (ix2 ⟨384 + l.val, by omega⟩ n) = grp (F := Ideal) ![384, 0] (k0_pay111 (F := Ideal) q) slices_S1024x256_o384_0_S128x256 (z 3) (s 3) (ix2 l n) := by
  unfold wchunk
  pointwise []
  have h0 : ¬ (384 + l.val < 128) := by omega
  have h1 : ¬ (384 + l.val - 128 < 128) := by omega
  have h2 : ¬ (384 + l.val - 128 - 128 < 128) := by omega
  have h3 : 384 + l.val - 128 - 128 - 128 < 128 := by omega
  rw [dif_neg h0, dif_neg h1, dif_neg h2, dif_pos h3]
  exact congrArg (fun y => grp (F := Ideal) _ _ _ _ _ (ix2 y n)) (Fin.ext (by show 384 + l.val - 128 - 128 - 128 = l.val; omega))

/-- Rows 512 to 639 of a chunk are group 4. -/
theorem wchunk_4 (q : IVec S256x128 32) (z s : Fin 8 → S1x256.Idx → EReal) (l : Fin 128) (n : Fin 256) :
    wchunk (F := Ideal) q z s (ix2 ⟨512 + l.val, by omega⟩ n) = grp (F := Ideal) ![512, 0] (k0_pay111 (F := Ideal) q) slices_S1024x256_o512_0_S128x256 (z 4) (s 4) (ix2 l n) := by
  unfold wchunk
  pointwise []
  have h0 : ¬ (512 + l.val < 128) := by omega
  have h1 : ¬ (512 + l.val - 128 < 128) := by omega
  have h2 : ¬ (512 + l.val - 128 - 128 < 128) := by omega
  have h3 : ¬ (512 + l.val - 128 - 128 - 128 < 128) := by omega
  have h4 : 512 + l.val - 128 - 128 - 128 - 128 < 128 := by omega
  rw [dif_neg h0, dif_neg h1, dif_neg h2, dif_neg h3, dif_pos h4]
  exact congrArg (fun y => grp (F := Ideal) _ _ _ _ _ (ix2 y n)) (Fin.ext (by show 512 + l.val - 128 - 128 - 128 - 128 = l.val; omega))

/-- Rows 640 to 767 of a chunk are group 5. -/
theorem wchunk_5 (q : IVec S256x128 32) (z s : Fin 8 → S1x256.Idx → EReal) (l : Fin 128) (n : Fin 256) :
    wchunk (F := Ideal) q z s (ix2 ⟨640 + l.val, by omega⟩ n) = grp (F := Ideal) ![640, 0] (k0_pay111 (F := Ideal) q) slices_S1024x256_o640_0_S128x256 (z 5) (s 5) (ix2 l n) := by
  unfold wchunk
  pointwise []
  have h0 : ¬ (640 + l.val < 128) := by omega
  have h1 : ¬ (640 + l.val - 128 < 128) := by omega
  have h2 : ¬ (640 + l.val - 128 - 128 < 128) := by omega
  have h3 : ¬ (640 + l.val - 128 - 128 - 128 < 128) := by omega
  have h4 : ¬ (640 + l.val - 128 - 128 - 128 - 128 < 128) := by omega
  have h5 : 640 + l.val - 128 - 128 - 128 - 128 - 128 < 128 := by omega
  rw [dif_neg h0, dif_neg h1, dif_neg h2, dif_neg h3, dif_neg h4, dif_pos h5]
  exact congrArg (fun y => grp (F := Ideal) _ _ _ _ _ (ix2 y n)) (Fin.ext (by show 640 + l.val - 128 - 128 - 128 - 128 - 128 = l.val; omega))

/-- Rows 768 to 895 of a chunk are group 6. -/
theorem wchunk_6 (q : IVec S256x128 32) (z s : Fin 8 → S1x256.Idx → EReal) (l : Fin 128) (n : Fin 256) :
    wchunk (F := Ideal) q z s (ix2 ⟨768 + l.val, by omega⟩ n) = grp (F := Ideal) ![768, 0] (k0_pay111 (F := Ideal) q) slices_S1024x256_o768_0_S128x256 (z 6) (s 6) (ix2 l n) := by
  unfold wchunk
  pointwise []
  have h0 : ¬ (768 + l.val < 128) := by omega
  have h1 : ¬ (768 + l.val - 128 < 128) := by omega
  have h2 : ¬ (768 + l.val - 128 - 128 < 128) := by omega
  have h3 : ¬ (768 + l.val - 128 - 128 - 128 < 128) := by omega
  have h4 : ¬ (768 + l.val - 128 - 128 - 128 - 128 < 128) := by omega
  have h5 : ¬ (768 + l.val - 128 - 128 - 128 - 128 - 128 < 128) := by omega
  have h6 : 768 + l.val - 128 - 128 - 128 - 128 - 128 - 128 < 128 := by omega
  rw [dif_neg h0, dif_neg h1, dif_neg h2, dif_neg h3, dif_neg h4, dif_neg h5, dif_pos h6]
  exact congrArg (fun y => grp (F := Ideal) _ _ _ _ _ (ix2 y n)) (Fin.ext (by show 768 + l.val - 128 - 128 - 128 - 128 - 128 - 128 = l.val; omega))

/-- Rows 896 to 1023 of a chunk are group 7. -/
theorem wchunk_7 (q : IVec S256x128 32) (z s : Fin 8 → S1x256.Idx → EReal) (l : Fin 128) (n : Fin 256) :
    wchunk (F := Ideal) q z s (ix2 ⟨896 + l.val, by omega⟩ n) = grp (F := Ideal) ![896, 0] (k0_pay111 (F := Ideal) q) slices_S1024x256_o896_0_S128x256 (z 7) (s 7) (ix2 l n) := by
  unfold wchunk
  pointwise []
  have h0 : ¬ (896 + l.val < 128) := by omega
  have h1 : ¬ (896 + l.val - 128 < 128) := by omega
  have h2 : ¬ (896 + l.val - 128 - 128 < 128) := by omega
  have h3 : ¬ (896 + l.val - 128 - 128 - 128 < 128) := by omega
  have h4 : ¬ (896 + l.val - 128 - 128 - 128 - 128 < 128) := by omega
  have h5 : ¬ (896 + l.val - 128 - 128 - 128 - 128 - 128 < 128) := by omega
  have h6 : ¬ (896 + l.val - 128 - 128 - 128 - 128 - 128 - 128 < 128) := by omega
  rw [dif_neg h0, dif_neg h1, dif_neg h2, dif_neg h3, dif_neg h4, dif_neg h5, dif_neg h6]
  exact congrArg (fun y => grp (F := Ideal) _ _ _ _ _ (ix2 y n)) (Fin.ext (by show 896 + l.val - 128 - 128 - 128 - 128 - 128 - 128 - 128 = l.val; omega))

/-- A chunk of dequantised rows at an index. -/
theorem wchunk_apply (q : IVec S256x128 32) (z s : Fin 8 → S1x256.Idx → EReal) (k : Fin 1024) (n : Fin 256) :
    wchunk (F := Ideal) q z s (ix2 k n) = (code (q (ix2 n ⟨k.val / 8, by omega⟩)) (k.val % 8) - z ⟨k.val / 128, by omega⟩ (ix2 0 n)) * s ⟨k.val / 128, by omega⟩ (ix2 0 n) := by
  have hk : k.val < 1024 := k.isLt
  have hm : k.val % 128 < 128 := Nat.mod_lt _ (by decide)
  have hr : k.val / 128 = 0 ∨ k.val / 128 = 1 ∨ k.val / 128 = 2 ∨ k.val / 128 = 3 ∨ k.val / 128 = 4 ∨ k.val / 128 = 5 ∨ k.val / 128 = 6 ∨ k.val / 128 = 7 := by omega
  rcases hr with h | h | h | h | h | h | h | h
  · have e : k = ⟨0 + (⟨k.val % 128, hm⟩ : Fin 128).val, by show 0 + k.val % 128 < 1024; omega⟩ := Fin.ext (by show k.val = 0 + k.val % 128; omega)
    refine (congrArg (fun y => wchunk (F := Ideal) q z s (ix2 y n)) e).trans ?_
    refine (wchunk_0 q z s ⟨k.val % 128, hm⟩ n).trans ((grp_apply 0 _ _ _ _ _ _ (by omega)).trans ?_)
    rw [code_apply]
    exact deq_congr q z s n _ k 0 e.symm h
  · have e : k = ⟨128 + (⟨k.val % 128, hm⟩ : Fin 128).val, by show 128 + k.val % 128 < 1024; omega⟩ := Fin.ext (by show k.val = 128 + k.val % 128; omega)
    refine (congrArg (fun y => wchunk (F := Ideal) q z s (ix2 y n)) e).trans ?_
    refine (wchunk_1 q z s ⟨k.val % 128, hm⟩ n).trans ((grp_apply 128 _ _ _ _ _ _ (by omega)).trans ?_)
    rw [code_apply]
    exact deq_congr q z s n _ k 1 e.symm h
  · have e : k = ⟨256 + (⟨k.val % 128, hm⟩ : Fin 128).val, by show 256 + k.val % 128 < 1024; omega⟩ := Fin.ext (by show k.val = 256 + k.val % 128; omega)
    refine (congrArg (fun y => wchunk (F := Ideal) q z s (ix2 y n)) e).trans ?_
    refine (wchunk_2 q z s ⟨k.val % 128, hm⟩ n).trans ((grp_apply 256 _ _ _ _ _ _ (by omega)).trans ?_)
    rw [code_apply]
    exact deq_congr q z s n _ k 2 e.symm h
  · have e : k = ⟨384 + (⟨k.val % 128, hm⟩ : Fin 128).val, by show 384 + k.val % 128 < 1024; omega⟩ := Fin.ext (by show k.val = 384 + k.val % 128; omega)
    refine (congrArg (fun y => wchunk (F := Ideal) q z s (ix2 y n)) e).trans ?_
    refine (wchunk_3 q z s ⟨k.val % 128, hm⟩ n).trans ((grp_apply 384 _ _ _ _ _ _ (by omega)).trans ?_)
    rw [code_apply]
    exact deq_congr q z s n _ k 3 e.symm h
  · have e : k = ⟨512 + (⟨k.val % 128, hm⟩ : Fin 128).val, by show 512 + k.val % 128 < 1024; omega⟩ := Fin.ext (by show k.val = 512 + k.val % 128; omega)
    refine (congrArg (fun y => wchunk (F := Ideal) q z s (ix2 y n)) e).trans ?_
    refine (wchunk_4 q z s ⟨k.val % 128, hm⟩ n).trans ((grp_apply 512 _ _ _ _ _ _ (by omega)).trans ?_)
    rw [code_apply]
    exact deq_congr q z s n _ k 4 e.symm h
  · have e : k = ⟨640 + (⟨k.val % 128, hm⟩ : Fin 128).val, by show 640 + k.val % 128 < 1024; omega⟩ := Fin.ext (by show k.val = 640 + k.val % 128; omega)
    refine (congrArg (fun y => wchunk (F := Ideal) q z s (ix2 y n)) e).trans ?_
    refine (wchunk_5 q z s ⟨k.val % 128, hm⟩ n).trans ((grp_apply 640 _ _ _ _ _ _ (by omega)).trans ?_)
    rw [code_apply]
    exact deq_congr q z s n _ k 5 e.symm h
  · have e : k = ⟨768 + (⟨k.val % 128, hm⟩ : Fin 128).val, by show 768 + k.val % 128 < 1024; omega⟩ := Fin.ext (by show k.val = 768 + k.val % 128; omega)
    refine (congrArg (fun y => wchunk (F := Ideal) q z s (ix2 y n)) e).trans ?_
    refine (wchunk_6 q z s ⟨k.val % 128, hm⟩ n).trans ((grp_apply 768 _ _ _ _ _ _ (by omega)).trans ?_)
    rw [code_apply]
    exact deq_congr q z s n _ k 6 e.symm h
  · have e : k = ⟨896 + (⟨k.val % 128, hm⟩ : Fin 128).val, by show 896 + k.val % 128 < 1024; omega⟩ := Fin.ext (by show k.val = 896 + k.val % 128; omega)
    refine (congrArg (fun y => wchunk (F := Ideal) q z s (ix2 y n)) e).trans ?_
    refine (wchunk_7 q z s ⟨k.val % 128, hm⟩ n).trans ((grp_apply 896 _ _ _ _ _ _ (by omega)).trans ?_)
    rw [code_apply]
    exact deq_congr q z s n _ k 7 e.symm h

/-- An output tile at an index. -/
theorem tile_apply (q : Fin 8 → IVec S256x128 32) (z s : Fin 8 → Fin 8 → S1x256.Idx → EReal) (xc : Fin 8 → S128x1024.Idx → EReal) (b : Fin 128) (n : Fin 256) :
    tile (F := Ideal) q z s xc (ix2 b n) = ∑ ch : Fin 8, ∑ k : Fin 1024, xc ch (ix2 b k) * wchunk (F := Ideal) (q ch) (z ch) (s ch) (ix2 k n) := by
  unfold tile chunk
  pointwise [dot_S128x1024_S1024x256_S128x256_1_0_0_1_n_n]
  rw [Fin.sum_univ_eight]

end Cert.Proof.Tile
-- ==== Proof.RunPieces.lean ====
/- The kernel body's stores as one tile function: each of the four output pieces of a grid point is the same function
   `tile` of the packed words, the zero-point rows, the scale rows and the permuted activations that the body loads.
   Hand-written, untrusted. -/
module

public import proofs.«01_k».proof.Proof.Tile
public import Idealize.ShloMosaic.Lib.Pipeline.Value

@[expose] public section

set_option maxRecDepth 16384

noncomputable section

namespace Cert.Proof.Tile

open Cert.KernelIdeal Cert.KernelIdeal.Gen Idealize.ShloMosaic Idealize.ShloMosaic.TcCoe Idealize.ShloMosaic.Tactic

variable {F : FTy → Type} [FloatOps F]

set_option maxHeartbeats 4000000 in
/-- In case B the output pieces are the four tiles. -/
theorem run_B (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : ¬cond0_0 i)
    (x0 : Vec F S128x8192 .bf16) (x1 : Vec F S1024x1024 .i32) (x2 : Vec F S64x128 .i32) (x3 : Vec F S64x1024 .bf16) (xs0 : Vec F S128x8192 .bf16) :
    (kernelRun0_B c i arg1 harg1 arg2 harg2 arg3 harg3 arg4 harg4 arg5 harg5 arg6 harg6 arg7 harg7 arg8 harg8 hc0 x0 x1 x2 x3 xs0).1 = pieces (F := F)
      (fun t ch => View.readAt (Elt F) arg2.view (Rect.unit (s := S1024x1024) ![256 * t.val, 128 * ch.val] S256x128.size (inbQ t ch)).toLoadRect (harg2.unread x1))
      (fun t g => arg7.view.readCov (kernelRun0_B c i arg1 harg1 arg2 harg2 arg3 harg3 arg4 harg4 arg5 harg5 arg6 harg6 arg7 harg7 arg8 harg8 hc0 x0 x1 x2 x3 xs0).2.2.1 (Rect.unit (s := S64x1024) ![g.val, 256 * t.val] S1x256.size (inbR g t)).toLoadRect)
      (fun t g => arg8.view.readCov (kernelRun0_B c i arg1 harg1 arg2 harg2 arg3 harg3 arg4 harg4 arg5 harg5 arg6 harg6 arg7 harg7 arg8 harg8 hc0 x0 x1 x2 x3 xs0).2.2.2.1 (Rect.unit (s := S64x1024) ![g.val, 256 * t.val] S1x256.size (inbR g t)).toLoadRect)
      (fun ch => View.readAt (Elt F) arg6.view (Rect.unit (s := S128x8192) ![0, 1024 * ch.val] S128x1024.size (inbX ch)).toLoadRect (harg6.unread xs0)) := by
  sl_kernel_rfl

set_option maxHeartbeats 4000000 in
/-- In case A the output pieces are the four tiles. -/
theorem run_A (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : cond0_0 i)
    (x0 : Vec F S128x8192 .bf16) (x1 : Vec F S1024x1024 .i32) (x2 : Vec F S64x128 .i32) (x3 : Vec F S64x1024 .bf16) :
    (kernelRun0_A c i arg1 harg1 arg2 harg2 arg3 harg3 arg4 harg4 arg5 harg5 arg6 harg6 arg7 harg7 arg8 harg8 hc0 x0 x1 x2 x3).1 = pieces (F := F)
      (fun t ch => View.readAt (Elt F) arg2.view (Rect.unit (s := S1024x1024) ![256 * t.val, 128 * ch.val] S256x128.size (inbQ t ch)).toLoadRect (harg2.unread x1))
      (fun t g => arg7.view.readCov (kernelRun0_A c i arg1 harg1 arg2 harg2 arg3 harg3 arg4 harg4 arg5 harg5 arg6 harg6 arg7 harg7 arg8 harg8 hc0 x0 x1 x2 x3).2.2.1 (Rect.unit (s := S64x1024) ![g.val, 256 * t.val] S1x256.size (inbR g t)).toLoadRect)
      (fun t g => arg8.view.readCov (kernelRun0_A c i arg1 harg1 arg2 harg2 arg3 harg3 arg4 harg4 arg5 harg5 arg6 harg6 arg7 harg7 arg8 harg8 hc0 x0 x1 x2 x3).2.2.2.1 (Rect.unit (s := S64x1024) ![g.val, 256 * t.val] S1x256.size (inbR g t)).toLoadRect)
      (fun ch => arg6.view.readCov (kernelRun0_A c i arg1 harg1 arg2 harg2 arg3 harg3 arg4 harg4 arg5 harg5 arg6 harg6 arg7 harg7 arg8 harg8 hc0 x0 x1 x2 x3).2.1 (Rect.unit (s := S128x8192) ![0, 1024 * ch.val] S128x1024.size (inbX ch)).toLoadRect) := by
  sl_kernel_rfl

end Cert.Proof.Tile
-- ==== Proof.OutVal.lean ====
/- What one grid point leaves in its output block and, at the first point, in the carried scratch, over the extended reals.
   Hand-written, untrusted. -/
module

public import proofs.«01_k».proof.Proof.ScrVal
public import Idealize.ShloMosaic.Lib.Pipeline.ValueKit.Tiles
public import proofs.«01_k».proof.Proof.TileVal
public import proofs.«01_k».proof.Proof.RunPieces

@[expose] public section

set_option maxRecDepth 16384

noncomputable section

namespace Cert.Proof.Tile

open Cert.KernelIdeal Cert.KernelIdeal.Gen Idealize.ShloMosaic Idealize.ShloMosaic.TcCoe Idealize.ShloMosaic.Tactic
open Cert.Proof.Ref (zsh perm)

/-- The expanded zero points of a block. -/
def zF (qz : IVec S64x128 32) : S64x1024.Idx → EReal := fun i =>
  FloatOps.sitofp (F := Ideal) .f32 (IntOp.andi (IntOp.shrui .vector (qz (ix2 (n0 := 64) (n1 := 128) (i 0) ⟨(i 1).val / 8, by have h : (i 1).val < 1024 := (i 1).isLt; omega⟩)) (zsh ⟨(i 1).val % 8, by omega⟩)) 15#32)

/-- The permuted activations. -/
def xF (x : S128x8192.Idx → EReal) : S128x8192.Idx → EReal := fun i => x (ix2 (n0 := 128) (n1 := 8192) (i 0) (perm (i 1)))

/-- The zero-point stores leave the expanded zero points. -/
theorem zcanon (qz : IVec S64x128 32) : View.canon (zpieces (F := Ideal) qz) = zF qz := by
  funext y
  refine View.canon_apply_of_pieces (zF qz) _ (fun p hp x => ?_) y (View.cover_of_tiledL (s := S64x1024) (zpieces (F := Ideal) qz) S64x128.size (by sl_kernel_rfl) y)
  simp only [zpieces, List.mem_map] at hp
  obtain ⟨j, -, rfl⟩ := hp
  have hx : x = ix2 (n0 := 64) (n1 := 128) (x 0) (x 1) := eq_ix2 x
  have h0 : (((Rect.unit (s := S64x1024) ![0, 128 * j.val] S64x128.size (inbZ j)).emb x) 0).val = 0 + 1 * (x 0).val := rfl
  have h1 : (((Rect.unit (s := S64x1024) ![0, 128 * j.val] S64x128.size (inbZ j)).emb x) 1).val = 128 * j.val + 1 * (x 1).val := rfl
  have hl : (x 1).val < 128 := (x 1).isLt
  refine (congrArg (zexp (F := Ideal) j qz) hx).trans ((zexp_apply j qz (x 0) (x 1)).trans ?_)
  unfold zF
  have e0 : (((Rect.unit (s := S64x1024) ![0, 128 * j.val] S64x128.size (inbZ j)).emb x) 0) = x 0 := Fin.ext (by omega)
  have e1 : ∀ h, (⟨16 * j.val + (x 1).val / 8, by omega⟩ : Fin 128) = ⟨(((Rect.unit (s := S64x1024) ![0, 128 * j.val] S64x128.size (inbZ j)).emb x) 1).val / 8, h⟩ := fun h => Fin.ext (by show _ = _ / 8; rw [h1]; show 16 * j.val + (x 1).val / 8 = _; omega)
  have e2 : ∀ h, (⟨(x 1).val % 8, by omega⟩ : Fin 8) = ⟨(((Rect.unit (s := S64x1024) ![0, 128 * j.val] S64x128.size (inbZ j)).emb x) 1).val % 8, h⟩ := fun h => Fin.ext (by show _ = _ % 8; rw [h1]; show (x 1).val % 8 = _; omega)
  have f1 := e1 (by rw [h1]; omega)
  have f2 := e2 (by omega)
  exact congr (congrArg (fun (a : Fin 128) (b : Fin 8) => FloatOps.sitofp (F := Ideal) FTy.f32 (IntOp.andi (IntOp.shrui .vector (qz (ix2 (n0 := 64) (n1 := 128) (x 0) a)) (zsh b)) 15#32)) f1) f2 |>.trans (by rw [← e0])

/-- The activation stores leave the permuted activations. -/
theorem xcanon (x : S128x8192.Idx → EReal) (X : Fin 64 → S128x128.Idx → EReal) (hX : ∀ g b l, X g (ix2 b l) = x (ix2 (n0 := 128) (n1 := 8192) b ⟨128 * g.val + l.val, by omega⟩)) :
    View.canon (Val := Elt Ideal) (xpieces (F := Ideal) X) = xF x := by
  funext y
  refine View.canon_apply_of_pieces (xF x) _ (fun p hp u => ?_) y (View.cover_of_tiledL (s := S128x8192) (xpieces (F := Ideal) X) S128x128.size (by sl_kernel_rfl) y)
  simp only [xpieces, List.mem_map] at hp
  obtain ⟨g, -, rfl⟩ := hp
  have hx : u = ix2 (n0 := 128) (n1 := 128) (u 0) (u 1) := eq_ix2 u
  have hl : (u 1).val < 128 := (u 1).isLt
  have h0 : (((Rect.unit (s := S128x8192) ![0, 128 * g.val] S128x128.size (inbP g)).emb u) 0).val = 0 + 1 * (u 0).val := rfl
  have h1 : (((Rect.unit (s := S128x8192) ![0, 128 * g.val] S128x128.size (inbP g)).emb u) 1).val = 128 * g.val + 1 * (u 1).val := rfl
  refine (congrArg (xperm (F := Ideal) (X g)) hx).trans ((xperm_apply (X g) (u 0) (u 1)).trans ((hX g _ _).trans ?_))
  show x _ = x (ix2 (n0 := 128) (n1 := 8192) (((Rect.unit (s := S128x8192) ![0, 128 * g.val] S128x128.size (inbP g)).emb u) 0) (perm (((Rect.unit (s := S128x8192) ![0, 128 * g.val] S128x128.size (inbP g)).emb u) 1)))
  refine congrArg x (congrArg₂ (fun (a : Fin 128) (b : Fin 8192) => ix2 a b) (Fin.ext ?_) (Fin.ext ?_))
  · rw [h0]; omega
  · show 128 * g.val + lperm (u 1).val = (perm _).val
    unfold perm lperm
    simp only [h1]
    split <;> split <;> omega

/-- An output block from its operands. -/
def blkF (qw : IVec S1024x1024 32) (z s : S64x1024.Idx → EReal) (x : S128x8192.Idx → EReal) (b : Fin 128) (n : Fin 1024) : EReal :=
  ∑ K : Fin 8192, x (ix2 b K) * ((code (qw (ix2 n ⟨K.val / 8, by omega⟩)) (K.val % 8) - z (ix2 (n0 := 64) ⟨K.val / 128, by omega⟩ n)) * s (ix2 (n0 := 64) ⟨K.val / 128, by omega⟩ n))

/-- A sum over the eight chunks is a sum over all the rows. -/
theorem sum_chunks (f : Fin 8192 → EReal) : ∑ ch : Fin 8, ∑ k : Fin 1024, f ⟨1024 * ch.val + k.val, by omega⟩ = ∑ K : Fin 8192, f K := by
  rw [← Fintype.sum_prod_type' (f := fun (ch : Fin 8) (k : Fin 1024) => f ⟨1024 * ch.val + k.val, by omega⟩)]
  refine Fintype.sum_equiv (finProdFinEquiv (m := 8) (n := 1024)) _ _ fun p => ?_
  exact congrArg f (Fin.ext (by show 1024 * p.1.val + p.2.val = p.2.val + 1024 * p.1.val; omega))

/-- One tile's sum is the block's entry. -/
theorem ocanon_sum (qw : IVec S1024x1024 32) (Z S : S64x1024.Idx → EReal) (x : S128x8192.Idx → EReal)
    (q : Fin 4 → Fin 8 → IVec S256x128 32) (z s : Fin 4 → Fin 64 → S1x256.Idx → EReal) (xc : Fin 8 → S128x1024.Idx → EReal)
    (hq : ∀ t ch n w, q t ch (ix2 n w) = qw (ix2 (n0 := 1024) (n1 := 1024) ⟨256 * t.val + n.val, by omega⟩ ⟨128 * ch.val + w.val, by omega⟩))
    (hz : ∀ t g n, z t g (ix2 0 n) = Z (ix2 (n0 := 64) (n1 := 1024) g ⟨256 * t.val + n.val, by omega⟩))
    (hs : ∀ t g n, s t g (ix2 0 n) = S (ix2 (n0 := 64) (n1 := 1024) g ⟨256 * t.val + n.val, by omega⟩))
    (hx : ∀ ch b k, xc ch (ix2 b k) = x (ix2 (n0 := 128) (n1 := 8192) b ⟨1024 * ch.val + k.val, by omega⟩)) (t : Fin 4) (b : Fin 128) (n : Fin 256) :
    ∑ ch : Fin 8, ∑ k : Fin 1024, xc ch (ix2 b k) * wchunk (F := Ideal) (q t ch) (fun j => z t (gix ch j)) (fun j => s t (gix ch j)) (ix2 k n)
      = blkF qw Z S x b ⟨256 * t.val + n.val, by omega⟩ := by
  unfold blkF
  refine Eq.trans ?_ (sum_chunks _)
  refine Finset.sum_congr rfl fun ch _ => Finset.sum_congr rfl fun k _ => ?_
  rw [wchunk_apply, hx, hq, hz, hs]
  have g1 : (⟨128 * ch.val + k.val / 8, by omega⟩ : Fin 1024) = ⟨(1024 * ch.val + k.val) / 8, by omega⟩ := Fin.ext (by show 128 * ch.val + k.val / 8 = (1024 * ch.val + k.val) / 8; omega)
  have g2 : k.val % 8 = (1024 * ch.val + k.val) % 8 := by omega
  have g3 : gix ch ⟨k.val / 128, by omega⟩ = ⟨(1024 * ch.val + k.val) / 128, by omega⟩ := Fin.ext (by show 8 * ch.val + k.val / 128 = (1024 * ch.val + k.val) / 128; omega)
  simp only [g1, g3]
  rw [g2]

/-- The four output stores leave the block. -/
theorem ocanon (qw : IVec S1024x1024 32) (Z S : S64x1024.Idx → EReal) (x : S128x8192.Idx → EReal)
    (q : Fin 4 → Fin 8 → IVec S256x128 32) (z s : Fin 4 → Fin 64 → S1x256.Idx → EReal) (xc : Fin 8 → S128x1024.Idx → EReal)
    (hq : ∀ t ch n w, q t ch (ix2 n w) = qw (ix2 (n0 := 1024) (n1 := 1024) ⟨256 * t.val + n.val, by omega⟩ ⟨128 * ch.val + w.val, by omega⟩))
    (hz : ∀ t g n, z t g (ix2 0 n) = Z (ix2 (n0 := 64) (n1 := 1024) g ⟨256 * t.val + n.val, by omega⟩))
    (hs : ∀ t g n, s t g (ix2 0 n) = S (ix2 (n0 := 64) (n1 := 1024) g ⟨256 * t.val + n.val, by omega⟩))
    (hx : ∀ ch b k, xc ch (ix2 b k) = x (ix2 (n0 := 128) (n1 := 8192) b ⟨1024 * ch.val + k.val, by omega⟩)) :
    View.canon (Val := Elt Ideal) (pieces (F := Ideal) q z s xc) = fun i => blkF qw Z S x (i 0) (i 1) := by
  funext y
  refine View.canon_apply_of_pieces (fun i => blkF qw Z S x (i 0) (i 1)) _ (fun p hp u => ?_) y (View.cover_of_tiledL (s := S128x1024) (pieces (F := Ideal) q z s xc) S128x256.size (by sl_kernel_rfl) y)
  have hp' : ∃ t, p = piece (F := Ideal) q z s xc t := by
    simp only [pieces, List.mem_cons, List.mem_nil_iff, or_false] at hp
    rcases hp with rfl | rfl | rfl | rfl <;> exact ⟨_, rfl⟩
  obtain ⟨t, rfl⟩ := hp'
  have hu : u = ix2 (n0 := 128) (n1 := 256) (u 0) (u 1) := eq_ix2 u
  have hl : (u 1).val < 256 := (u 1).isLt
  have e0 : ((Rect.unit (s := S128x1024) ![0, 256 * t.val] S128x256.size (inbO t)).emb u) 0 = u 0 := Fin.ext (by show 0 + 1 * (u 0).val = (u 0).val; omega)
  have e1 : ((Rect.unit (s := S128x1024) ![0, 256 * t.val] S128x256.size (inbO t)).emb u) 1 = (⟨256 * t.val + (u 1).val, by omega⟩ : Fin 1024) := Fin.ext (by show 256 * t.val + 1 * (u 1).val = 256 * t.val + (u 1).val; omega)
  refine (congrArg (tile (F := Ideal) (q t) (fun ch j => z t (gix ch j)) (fun ch j => s t (gix ch j)) xc) hu).trans ((tile_apply _ _ _ _ (u 0) (u 1)).trans ?_)
  refine Eq.trans ?_ (congr (congrArg (fun (a : Fin 128) (b : Fin 1024) => blkF qw Z S x a b) e0.symm) e1.symm)
  exact ocanon_sum qw Z S x q z s xc hq hz hs hx t (u 0) (u 1)

/-- The zero offset. -/
theorem hz2' : (![0, 0] : Fin 2 → Nat) = fun _ => 0 := by funext a; fin_cases a <;> rfl

/-- Case B: the output block. -/
theorem out_B (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : ¬cond0_0 i)
    (x0 : Vec Ideal S128x8192 .bf16) (x1 : Vec Ideal S1024x1024 .i32) (x2 : Vec Ideal S64x128 .i32) (x3 : Vec Ideal S64x1024 .bf16) (xs0 : Vec Ideal S128x8192 .bf16) :
    out0_B_4 (F := Ideal) c i arg1 harg1 arg2 harg2 arg3 harg3 arg4 harg4 arg5 harg5 arg6 harg6 arg7 harg7 arg8 harg8 hc0 x0 x1 x2 x3 xs0 = fun y => blkF x1 (zF x2) x3 (xs0) (y 0) (y 1) := by
  unfold out0_B_4
  rw [View.read_writes_eq_canon _ _ _ (cover0_B_4 (F := Ideal) c i arg1 harg1 arg2 harg2 arg3 harg3 arg4 harg4 arg5 harg5 arg6 harg6 arg7 harg7 arg8 harg8 hc0 x0 x1 x2 x3 xs0), run_B]
  refine ocanon x1 (zF x2) x3 (xs0) _ _ _ _ (fun t ch n w => ?_) (fun t g n => ?_) (fun t g n => ?_) (fun ch b k => ?_)
  · rw [View.readAt_eq_ld, harg2.read_unread]
    exact View.ld_unit_apply_of _ _ _ _ _ _ (fun a => by fin_cases a <;> rfl)
  · rw [View.readCov_eq_canon', zrun_B, View.readAt_eq_ld, harg3.read_unread, View.ld_unit_zero hz2', zcanon]
    exact congrArg (zF x2) (funext fun a => Fin.ext ((Rect.idx_unit_val _ _ _ _ a).trans (by fin_cases a <;> rfl)))
  · rw [View.readCov_eq_canon', srun_B, View.readAt_eq_ld, harg4.read_unread, View.ld_unit_zero hz2']
    rw [View.canon_unit_zero hz2']
    unfold k0_pay109
    rw [shapeCast_self]
    exact congrArg x3 (funext fun a => Fin.ext ((Rect.idx_unit_val _ _ _ _ a).trans (by fin_cases a <;> rfl)))
  · rw [View.readAt_eq_ld, harg6.read_unread]
    exact View.ld_unit_apply_of _ _ _ _ _ _ (fun a => by fin_cases a <;> first | rfl | exact (Nat.zero_add _).symm)

/-- Case A: the output block. -/
theorem out_A (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : cond0_0 i)
    (x0 : Vec Ideal S128x8192 .bf16) (x1 : Vec Ideal S1024x1024 .i32) (x2 : Vec Ideal S64x128 .i32) (x3 : Vec Ideal S64x1024 .bf16) :
    out0_A_4 (F := Ideal) c i arg1 harg1 arg2 harg2 arg3 harg3 arg4 harg4 arg5 harg5 arg6 harg6 arg7 harg7 arg8 harg8 hc0 x0 x1 x2 x3 = fun y => blkF x1 (zF x2) x3 (xF x0) (y 0) (y 1) := by
  unfold out0_A_4
  rw [View.read_writes_eq_canon _ _ _ (cover0_A_4 (F := Ideal) c i arg1 harg1 arg2 harg2 arg3 harg3 arg4 harg4 arg5 harg5 arg6 harg6 arg7 harg7 arg8 harg8 hc0 x0 x1 x2 x3), run_A]
  refine ocanon x1 (zF x2) x3 (xF x0) _ _ _ _ (fun t ch n w => ?_) (fun t g n => ?_) (fun t g n => ?_) (fun ch b k => ?_)
  · rw [View.readAt_eq_ld, harg2.read_unread]
    exact View.ld_unit_apply_of _ _ _ _ _ _ (fun a => by fin_cases a <;> rfl)
  · rw [View.readCov_eq_canon', zrun_A, View.readAt_eq_ld, harg3.read_unread, View.ld_unit_zero hz2', zcanon]
    exact congrArg (zF x2) (funext fun a => Fin.ext ((Rect.idx_unit_val _ _ _ _ a).trans (by fin_cases a <;> rfl)))
  · rw [View.readCov_eq_canon', srun_A, View.readAt_eq_ld, harg4.read_unread, View.ld_unit_zero hz2']
    rw [View.canon_unit_zero hz2']
    unfold k0_pay109
    rw [shapeCast_self]
    exact congrArg x3 (funext fun a => Fin.ext ((Rect.idx_unit_val _ _ _ _ a).trans (by fin_cases a <;> rfl)))
  · rw [View.readCov_eq_canon', xrun_A, xcanon x0]
    · exact congrArg (xF x0) (funext fun a => Fin.ext ((Rect.idx_unit_val _ _ _ _ a).trans (by fin_cases a <;> first | rfl | exact Nat.zero_add _)))
    · intro g b l
      rw [View.readAt_eq_ld, harg1.read_unread]
      exact View.ld_unit_apply_of _ _ _ _ _ _ (fun a => by fin_cases a <;> first | rfl | exact (Nat.zero_add _).symm)

/-- Case A: the carried scratch. -/
theorem scr_A (c : Dev nD) (i : grid0.Coords) (arg1 : Memref sig .tc .vmem S128x8192 .bf16) (harg1 : arg1.IsWhole) (arg2 : Memref sig .tc .vmem S1024x1024 .i32) (harg2 : arg2.IsWhole) (arg3 : Memref sig .tc .vmem S64x128 .i32) (harg3 : arg3.IsWhole) (arg4 : Memref sig .tc .vmem S64x1024 .bf16) (harg4 : arg4.IsWhole) (arg5 : Memref sig .tc .vmem S128x1024 .bf16) (harg5 : arg5.IsWhole) (arg6 : Memref sig .tc .vmem S128x8192 .bf16) (harg6 : arg6.IsWhole) (arg7 : Memref sig .tc .vmem S64x1024 .f32) (harg7 : arg7.IsWhole) (arg8 : Memref sig .tc .vmem S64x1024 .f32) (harg8 : arg8.IsWhole) (hc0 : cond0_0 i)
    (x0 : Vec Ideal S128x8192 .bf16) (x1 : Vec Ideal S1024x1024 .i32) (x2 : Vec Ideal S64x128 .i32) (x3 : Vec Ideal S64x1024 .bf16) :
    sout0_A_0 (F := Ideal) c i arg1 harg1 arg2 harg2 arg3 harg3 arg4 harg4 arg5 harg5 arg6 harg6 arg7 harg7 arg8 harg8 hc0 x0 x1 x2 x3 = xF x0 := by
  unfold sout0_A_0
  rw [View.read_writes_eq_canon _ _ _ (scover0_A_0 (F := Ideal) c i arg1 harg1 arg2 harg2 arg3 harg3 arg4 harg4 arg5 harg5 arg6 harg6 arg7 harg7 arg8 harg8 hc0 x0 x1 x2 x3), xrun_A]
  refine xcanon x0 _ fun g b l => ?_
  rw [View.readAt_eq_ld, harg1.read_unread]
  exact View.ld_unit_apply_of _ _ _ _ _ _ (fun a => by fin_cases a <;> first | rfl | exact (Nat.zero_add _).symm)

end Cert.Proof.Tile
-- ==== Proof.Blocks.lean ====
/- The kernel's result array over the extended reals is the reference's: the blocks and the carried scratch. Hand-written, untrusted. -/
module

public import proofs.«01_k».proof.Proof.OutVal
public import proofs.«01_k».proof.Proof.Gen.KernelIdeal.Value

@[expose] public section

set_option maxRecDepth 16384

noncomputable section

namespace Cert.Proof.Tile

open Cert.KernelIdeal Cert.KernelIdeal.Gen Idealize.ShloMosaic Idealize.ShloMosaic.TcCoe Idealize.ShloMosaic.Tactic
open Cert.Proof.Ref (zsh perm)

variable (m : (ℓ : Loc nD τ sig) → Buf (Elt Ideal) ℓ)

/-- The activations as the region finds them: the reshaped argument. -/
theorem V_main_v0 (c : Dev nD) : V m c main_v0 = shapeCast S128x8192 (m ((c : Thread nD τ).loc main_arg0)) shapeCasts_S128x1x8192_S128x8192 := by
  show StableHlo.after hostOps0 (fun b => m (c, b)) _ = _
  after_results
  try rfl

/-- The index maps, decided over the grid. -/
theorem idxs : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The reshaped activations at an index. -/
theorem flat_apply (x : S128x1x8192.Idx → EReal) (b : Fin 128) (k : Fin 8192) :
    shapeCast S128x8192 x shapeCasts_S128x1x8192_S128x8192 (ix2 b k) = x (ix3 b 0 k) := by
  pointwise []

/-- The activation block is the whole activations. -/
theorem iblk0 (c : Dev nD) (t : Fin cfg0.N) (b : Fin 128) (k : Fin 8192) :
    (iblk m c 0 t : S128x8192.Idx → EReal) (ix2 b k) = (m ((c : Thread nD τ).loc main_arg0) : S128x1x8192.Idx → EReal) (ix3 b 0 k) := by
  obtain ⟨a0, a1, -⟩ := idxs t
  have h : (iblk m c 0 t : S128x8192.Idx → EReal) (ix2 b k) = (V m c main_v0 : S128x8192.Idx → EReal) (ix2 b k) := by
    show (V m c main_v0 : S128x8192.Idx → EReal) (((cfg0.win 0).blk t).view.emb _) = _
    refine congrArg (V m c main_v0 : S128x8192.Idx → EReal) (funext fun a => Fin.ext ?_)
    match a with
    | ⟨0, _⟩ => show win0_0.index t (0 : Fin 2) * 128 + 1 * b.val = b.val; omega
    | ⟨1, _⟩ => show win0_0.index t (1 : Fin 2) * 8192 + 1 * k.val = k.val; omega
  rw [h, V_main_v0]
  exact flat_apply _ b k

/-- The packed-weight block. -/
theorem iblk1 (c : Dev nD) (t : Fin cfg0.N) (r k : Fin 1024) (ht : t.val < 44) :
    (iblk m c 1 t : S1024x1024.Idx → BitVec 32) (ix2 r k) = (m ((c : Thread nD τ).loc main_arg1) : S45056x1024.Idx → BitVec 32) (ix2 ⟨1024 * t.val + r.val, by omega⟩ k) := by
  obtain ⟨-, -, a0, a1, -⟩ := idxs t
  have e := V_main_arg1 m c
  rw [← e]
  refine congrArg (V m c main_arg1 : S45056x1024.Idx → BitVec 32) (funext fun a => Fin.ext ?_)
  match a with
  | ⟨0, _⟩ => show win0_1.index t (0 : Fin 2) * 1024 + 1 * r.val = 1024 * t.val + r.val; omega
  | ⟨1, _⟩ => show win0_1.index t (1 : Fin 2) * 1024 + 1 * k.val = k.val; omega

/-- The packed zero-point block. -/
theorem iblk2 (c : Dev nD) (t : Fin cfg0.N) (g : Fin 64) (p : Fin 128) (ht : t.val < 44) :
    (iblk m c 2 t : S64x128.Idx → BitVec 32) (ix2 g p) = (m ((c : Thread nD τ).loc main_arg2) : S64x5632.Idx → BitVec 32) (ix2 g ⟨128 * t.val + p.val, by omega⟩) := by
  obtain ⟨-, -, -, -, a0, a1, -⟩ := idxs t
  have e := V_main_arg2 m c
  rw [← e]
  refine congrArg (V m c main_arg2 : S64x5632.Idx → BitVec 32) (funext fun a => Fin.ext ?_)
  match a with
  | ⟨0, _⟩ => show win0_2.index t (0 : Fin 2) * 64 + 1 * g.val = g.val; omega
  | ⟨1, _⟩ => show win0_2.index t (1 : Fin 2) * 128 + 1 * p.val = 128 * t.val + p.val; omega

/-- The scale block. -/
theorem iblk3 (c : Dev nD) (t : Fin cfg0.N) (g : Fin 64) (n : Fin 1024) (ht : t.val < 44) :
    (iblk m c 3 t : S64x1024.Idx → EReal) (ix2 g n) = (m ((c : Thread nD τ).loc main_arg3) : S64x45056.Idx → EReal) (ix2 g ⟨1024 * t.val + n.val, by omega⟩) := by
  obtain ⟨-, -, -, -, -, -, a0, a1⟩ := idxs t
  have e := V_main_arg3 m c
  rw [← e]
  refine congrArg (V m c main_arg3 : S64x45056.Idx → EReal) (funext fun a => Fin.ext ?_)
  match a with
  | ⟨0, _⟩ => show win0_3.index t (0 : Fin 2) * 64 + 1 * g.val = g.val; omega
  | ⟨1, _⟩ => show win0_3.index t (1 : Fin 2) * 1024 + 1 * n.val = 1024 * t.val + n.val; omega

/-- The permuted activations every point works on. -/
def xall (c : Dev nD) : S128x8192.Idx → EReal := fun i =>
  (m ((c : Thread nD τ).loc main_arg0) : S128x1x8192.Idx → EReal) (ix3 (n0 := 128) (n1 := 1) (n2 := 8192) (i 0) 0 (perm (i 1)))

/-- The activation block permuted. -/
theorem xF_iblk (c : Dev nD) (t : Fin cfg0.N) : xF (iblk m c 0 t) = xall m c := by
  funext i
  exact iblk0 m c t (i 0) (perm (i 1))

/-- The carried scratch after any point holds the permuted activations. -/
theorem carried (c : Dev nD) : ∀ (n : ℕ) (hn : n < cfg0.N), (outsAt0 m c n hn).2 = xall m c := by
  intro n
  induction n with
  | zero =>
    intro hn
    have h := outsAt0_A m c ⟨0, hn⟩ rfl
    refine (congrArg Prod.snd h).trans ?_
    exact (scr_A c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) scM0_0 (Memref.isWhole_whole _) scM0_1 (Memref.isWhole_whole _) scM0_2 (Memref.isWhole_whole _) ((hcond0_0 (⟨0, hn⟩ : Fin cfg0.N)).mpr rfl) (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N))).trans (xF_iblk m c _)
  | succ n ih =>
    intro hn
    have hN := lt_of_lt_of_eq hn (show cfg0.N = 44 from N_0)
    have h := outsAt0_B m c ⟨n + 1, hn⟩ (by show ¬ (n + 1) % 44 = 0; omega)
    refine (congrArg Prod.snd h).trans ?_
    exact ih _

end Cert.Proof.Tile
-- ==== Proof.Outs.lean ====
/- The kernel's result array over the extended reals is the reference's: the last step. Hand-written, untrusted. -/
module

public import proofs.«01_k».proof.Proof.Blocks
public import proofs.«01_k».proof.Proof.Gen.KernelIdeal.Value

@[expose] public section

set_option maxRecDepth 16384

noncomputable section

namespace Cert.Proof.Tile

open Cert.KernelIdeal Cert.KernelIdeal.Gen Idealize.ShloMosaic Idealize.ShloMosaic.TcCoe Idealize.ShloMosaic.Tactic
open Cert.Proof.Ref (zsh perm)

variable (m : (ℓ : Loc nD τ sig) → Buf (Elt Ideal) ℓ)

/-- The output block after any point. -/
theorem outs_t (c : Dev nD) (t : Fin cfg0.N) :
    (outsAt0 m c t.val t.isLt).1 = fun y => blkF (iblk m c 1 t) (zF (iblk m c 2 t)) (iblk m c 3 t) (xall m c) (y 0) (y 1) := by
  by_cases h0 : t.val % 44 = 0
  · rw [outsAt0_A m c t h0]
    refine (out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)).trans ?_
    rw [xF_iblk]
  · rw [outsAt0_B m c t h0, carried m c (t.val - 1)]
    dsimp only
    rw [out_B]

end Cert.Proof.Tile
-- ==== Proof.Final.lean ====
/- The kernel's result array over the extended reals is the reference's: the last step. Hand-written, untrusted. -/
module

public import proofs.«01_k».proof.Proof.Outs
public import proofs.«01_k».proof.Proof.Gen.KernelIdeal.Value

@[expose] public section

set_option maxRecDepth 16384

noncomputable section

namespace Cert.Proof.Tile

open Cert.KernelIdeal Cert.KernelIdeal.Gen Idealize.ShloMosaic Idealize.ShloMosaic.TcCoe Idealize.ShloMosaic.Tactic
open Cert.Proof.Ref (zsh perm)

variable (m : (ℓ : Loc nD τ sig) → Buf (Elt Ideal) ℓ)

/-- The same, by the point's number. -/
theorem outs (c : Dev nD) (n : ℕ) (hn : n < cfg0.N) :
    (outsAt0 m c n hn).1 = fun y => blkF (iblk m c 1 ⟨n, hn⟩) (zF (iblk m c 2 ⟨n, hn⟩)) (iblk m c 3 ⟨n, hn⟩) (xall m c) (y 0) (y 1) :=
  outs_t m c ⟨n, hn⟩

/-- A field masked to four bits is the same under the logical and the arithmetic shift. -/
theorem field_eq (w : BitVec 32) (n : Nat) (hn : n ≤ 28) : (w >>> n) &&& 15#32 = (w.sshiftRight n) &&& 15#32 := by
  ext i hi
  rw [BitVec.getElem_and, BitVec.getElem_and]
  by_cases h4 : i < 4
  · congr 1
    rw [BitVec.getElem_ushiftRight, BitVec.getElem_sshiftRight, dif_pos (show n + i < 32 by omega)]
    exact BitVec.getLsbD_eq_getElem (show n + i < 32 by omega)
  · have e : ∀ i (hi : i < 32), ¬ i < 4 → (15#32)[i] = false := by decide
    rw [e i hi h4, Bool.and_false, Bool.and_false]

/-- The same for a field of a weight word. -/
theorem field_code (w : BitVec 32) : ∀ r < 8, IntOp.andi (IntOp.shrui .vector w (BitVec.ofNat 32 (4 * r))) 15#32 = IntOp.andi (IntOp.shrsi .host w (BitVec.ofNat 32 (4 * r))) 15#32 := by
  intro r hr
  interval_cases r <;> exact field_eq w _ (by decide)

/-- The same for a field of a zero-point word. -/
theorem field_zero (w : BitVec 32) : ∀ r : Fin 8, IntOp.andi (IntOp.shrui .vector w (zsh r)) 15#32 = IntOp.andi (IntOp.shrsi .host w (zsh r)) 15#32 := by
  intro r
  fin_cases r <;> exact field_eq w _ (by decide)

/-- The kernel's result at an index is the reference's. -/
theorem G4_apply (c : Dev nD) (m' : (ℓ : Loc Cert.ReferenceIdeal.nD Cert.ReferenceIdeal.τ Cert.ReferenceIdeal.sig) → Buf (Elt Ideal) ℓ)
    (h0 : (m' ((c.tc : Thread Cert.ReferenceIdeal.nD Cert.ReferenceIdeal.τ).loc Cert.ReferenceIdeal.main_arg0) : S128x1x8192.Idx → EReal) = m ((c : Thread nD τ).loc main_arg0))
    (h1 : (m' ((c.tc : Thread Cert.ReferenceIdeal.nD Cert.ReferenceIdeal.τ).loc Cert.ReferenceIdeal.main_arg1) : S45056x1024.Idx → BitVec 32) = m ((c : Thread nD τ).loc main_arg1))
    (h2 : (m' ((c.tc : Thread Cert.ReferenceIdeal.nD Cert.ReferenceIdeal.τ).loc Cert.ReferenceIdeal.main_arg2) : S64x5632.Idx → BitVec 32) = m ((c : Thread nD τ).loc main_arg2))
    (h3 : (m' ((c.tc : Thread Cert.ReferenceIdeal.nD Cert.ReferenceIdeal.τ).loc Cert.ReferenceIdeal.main_arg3) : S64x45056.Idx → EReal) = m ((c : Thread nD τ).loc main_arg3))
    (b : Fin 128) (n : Fin 45056) :
    (Cert.KernelIdeal.Value.G4 m c : S128x45056.Idx → EReal) (ix2 b n) = (Cert.ReferenceIdeal.Value.res_main_v69 m' c : S128x45056.Idx → EReal) (ix2 b n) := by
  rw [Cert.Proof.Ref.res_apply]
  have hp : Cert.KernelIdeal.Value.pt4Of (ix2 b n) = n.val / 1024 := by
    show 44 * (b.val / 128 - 0) + 1 * (n.val / 1024 - 0) = _; omega
  have hpt : Cert.KernelIdeal.Value.pt4Of (ix2 b n) < cfg0.N := by rw [hp]; exact lt_of_lt_of_eq (by omega) N_0.symm
  have hN : n.val / 1024 < cfg0.N := by rw [← hp]; exact hpt
  have hl0 : Cert.KernelIdeal.Value.loc4Of (ix2 b n) 0 = b := Fin.ext (by show b.val % 128 = b.val; omega)
  have hl1 : Cert.KernelIdeal.Value.loc4Of (ix2 b n) 1 = (⟨n.val % 1024, by omega⟩ : Fin 1024) := rfl
  have hG : (Cert.KernelIdeal.Value.G4 m c : S128x45056.Idx → EReal) (ix2 b n)
      = blkF (iblk m c 1 ⟨n.val / 1024, hN⟩) (zF (iblk m c 2 ⟨n.val / 1024, hN⟩)) (iblk m c 3 ⟨n.val / 1024, hN⟩) (xall m c) b ⟨n.val % 1024, by omega⟩ := by
    unfold Cert.KernelIdeal.Value.G4
    rw [dif_pos hpt]
    rw [Cert.KernelIdeal.Value.fold0_congr m c _ _ (n.val / 1024) (by omega) hp, ← Cert.KernelIdeal.Value.outsAt0_sweep m c _ hN, outs m c _ hN]
    exact congrArg₂ (fun (a : Fin 128) (y : Fin 1024) => blkF (iblk m c 1 ⟨n.val / 1024, hN⟩) (zF (iblk m c 2 ⟨n.val / 1024, hN⟩)) (iblk m c 3 ⟨n.val / 1024, hN⟩) (xall m c) a y) hl0 hl1
  rw [hG]
  unfold blkF
  show @Eq EReal _ _
  refine Finset.sum_congr rfl fun K _ => ?_
  have ht : n.val / 1024 < 44 := by omega
  have en : (⟨1024 * (n.val / 1024) + n.val % 1024, by omega⟩ : Fin 45056) = n := Fin.ext (by show 1024 * (n.val / 1024) + n.val % 1024 = n.val; omega)
  have ep : (⟨128 * (n.val / 1024) + n.val % 1024 / 8, by omega⟩ : Fin 5632) = ⟨n.val / 8, by omega⟩ := Fin.ext (by show 128 * (n.val / 1024) + n.val % 1024 / 8 = n.val / 8; omega)
  have er : (⟨n.val % 1024 % 8, by omega⟩ : Fin 8) = ⟨n.val % 8, by omega⟩ := Fin.ext (by show n.val % 1024 % 8 = n.val % 8; omega)
  have w1 := iblk1 m c ⟨n.val / 1024, hN⟩ ⟨n.val % 1024, by omega⟩ ⟨K.val / 8, by omega⟩ ht
  have w2 := iblk2 m c ⟨n.val / 1024, hN⟩ ⟨K.val / 128, by omega⟩ ⟨n.val % 1024 / 8, by omega⟩ ht
  have w3 := iblk3 m c ⟨n.val / 1024, hN⟩ ⟨K.val / 128, by omega⟩ ⟨n.val % 1024, by omega⟩ ht
  rw [Cert.Proof.Ref.xp_apply, Cert.Proof.Ref.wt_apply, h0, h1, h2, h3]
  have z2 : zF (iblk m c 2 ⟨n.val / 1024, hN⟩) (ix2 (n0 := 64) ⟨K.val / 128, by omega⟩ (⟨n.val % 1024, by omega⟩ : Fin 1024))
      = FloatOps.sitofp (F := Ideal) FTy.bf16 (IntOp.andi (IntOp.shrsi .host ((m ((c : Thread nD τ).loc main_arg2) : S64x5632.Idx → BitVec 32) (ix2 ⟨K.val / 128, by omega⟩ ⟨n.val / 8, by omega⟩)) (zsh ⟨n.val % 8, by omega⟩)) 15#32) := by
    refine (congrArg (fun w => FloatOps.sitofp (F := Ideal) .f32 (IntOp.andi (IntOp.shrui .vector w (zsh ⟨n.val % 1024 % 8, by omega⟩)) 15#32)) w2).trans ?_
    show FloatOps.sitofp (F := Ideal) .bf16 (IntOp.andi (IntOp.shrui .vector ((m ((c : Thread nD τ).loc main_arg2) : S64x5632.Idx → BitVec 32) (ix2 ⟨K.val / 128, by omega⟩ ⟨128 * (n.val / 1024) + n.val % 1024 / 8, by omega⟩)) (zsh ⟨n.val % 1024 % 8, by omega⟩)) 15#32) = _
    rw [ep, er, field_zero]
  have c1 : code ((iblk m c 1 ⟨n.val / 1024, hN⟩ : S1024x1024.Idx → BitVec 32) (ix2 (⟨n.val % 1024, by omega⟩ : Fin 1024) ⟨K.val / 8, by omega⟩)) (K.val % 8)
      = FloatOps.sitofp (F := Ideal) FTy.bf16 (IntOp.andi (IntOp.shrsi .host ((m ((c : Thread nD τ).loc main_arg1) : S45056x1024.Idx → BitVec 32) (ix2 n ⟨K.val / 8, by omega⟩)) (BitVec.ofNat 32 (4 * (K.val % 8)))) 15#32) := by
    rw [w1]
    unfold code
    rw [field_code _ _ (Nat.mod_lt _ (by decide))]
    exact congrArg (fun y => FloatOps.sitofp (F := Ideal) FTy.bf16 (IntOp.andi (IntOp.shrsi .host ((m ((c : Thread nD τ).loc main_arg1) : S45056x1024.Idx → BitVec 32) (ix2 y ⟨K.val / 8, by omega⟩)) (BitVec.ofNat 32 (4 * (K.val % 8)))) 15#32)) en
  have s3 : (iblk m c 3 ⟨n.val / 1024, hN⟩ : S64x1024.Idx → EReal) (ix2 ⟨K.val / 128, by omega⟩ (⟨n.val % 1024, by omega⟩ : Fin 1024))
      = (m ((c : Thread nD τ).loc main_arg3) : S64x45056.Idx → EReal) (ix2 ⟨K.val / 128, by omega⟩ n) :=
    w3.trans (congrArg (fun y => (m ((c : Thread nD τ).loc main_arg3) : S64x45056.Idx → EReal) (ix2 ⟨K.val / 128, by omega⟩ y)) en)
  exact congrArg₂ (· * ·) rfl (congrArg₂ (· * ·) (congrArg₂ (· - ·) c1 z2) s3)

end Cert.Proof.Tile
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference's frame: its run, read at the four arguments, which no operation writes; it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: both runs end with the same result array. -/
theorem value : Cert.algebraic_KernelIdeal_ReferenceIdeal := fun m g m' g' _ hargs =>
  ⟨Cert.KernelIdeal.Value.G4 m, Cert.KernelIdeal.Value.run (F := Ideal) m g,
    (θ_run Cert.ReferenceIdeal.defs _ _).mono (fun r h c => ⟨(h c).1.trans (funext fun i => by
        obtain ⟨h0, h1, h2, h3⟩ := hargs c
        have hi := eq_ix2 (n0 := 128) (n1 := 45056) i
        rw [hi]
        exact (Cert.Proof.Tile.G4_apply m c m' h0 h1 h2 h3 (i 0) (i 1)).symm), (h c).2⟩)
      (Cert.ReferenceIdeal.Value.run (F := Ideal) m' g')⟩

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_r, trivial, value⟩

end Cert.Proof

end
